-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_range [hPre_within_range : Cert.Pre_within_range.Facts] (m : (ℓ : Loc Cert.KernelIdeal.nD Cert.KernelIdeal.τ Cert.KernelIdeal.sig) → Buf (Elt Ideal) ℓ) : Prop :=
  ∀ c : Dev Cert.KernelIdeal.nD,
    (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_range [hPre_within_range : Cert.Pre_within_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_within_range [hKernelIdeal : Cert.KernelIdeal.Facts] [hPre_within_range : Cert.Pre_within_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_within_range [hReferenceIdeal : Cert.ReferenceIdeal.Facts] [hPre_within_range : Cert.Pre_within_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_within_range [hKernelIdeal : Cert.KernelIdeal.Facts] [hReferenceIdeal : Cert.ReferenceIdeal.Facts] [hPre_within_range : Cert.Pre_within_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)) (v4 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_v3_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_within_range : Cert.Pre_within_range.Facts),
    quiescent_Kernel (hKernel := hKernel)
    ∧ quiescent_KernelIdeal (hKernelIdeal := hKernelIdeal)
    ∧ quiescent_KernelIdeal_pre_within_range (hKernelIdeal := hKernelIdeal) (hPre_within_range := hPre_within_range)
    ∧ quiescent_ReferenceIdeal (hReferenceIdeal := hReferenceIdeal)
    ∧ quiescent_ReferenceIdeal_pre_within_range (hReferenceIdeal := hReferenceIdeal) (hPre_within_range := hPre_within_range)
    ∧ preserves_Kernel_KernelIdeal
    ∧ algebraic_KernelIdeal_ReferenceIdeal_pre_within_range (hKernelIdeal := hKernelIdeal) (hReferenceIdeal := hReferenceIdeal) (hPre_within_range := hPre_within_range)
-- ==== Pre_within_range.lean ====
abbrev S2x1024x5120 : Shape := ⟨3, ![2, 1024, 5120]⟩
abbrev S6912x5120 : Shape := ⟨2, ![6912, 5120]⟩
abbrev S6912 : Shape := ⟨1, ![6912]⟩
abbrev S5120x3456 : Shape := ⟨2, ![5120, 3456]⟩
abbrev S5120 : Shape := ⟨1, ![5120]⟩
abbrev S_ : Shape := ⟨0, ![]⟩

class Facts : Prop where
  reducesTo_S2x1024x5120_S_d0_1_2 : S2x1024x5120.ReducesTo [0, 1, 2] S_
  h_S_ : 0 < S_.numel
  bitsLt_bf16_f32 : FTy.bits .bf16 < FTy.bits .f32
  bcast_S_S2x1024x5120 : S_.BroadcastsInDim S2x1024x5120 (![] : Fin 0 → Fin S2x1024x5120.rank)
  bcast_S_S6912 : S_.BroadcastsInDim S6912 (![] : Fin 0 → Fin S6912.rank)
  bcast_S_S6912x5120 : S_.BroadcastsInDim S6912x5120 (![] : Fin 0 → Fin S6912x5120.rank)

variable [Facts]

def fn_part1 {F : FTy → Type} [FloatOps F] (main_v5 : IVec S2x1024x5120 1) (main_v8 : IVec S6912 1) (main_v13 : IVec S6912 1) (main_v15 : IVec S6912x5120 1) (main_v17 : IVec S6912x5120 1) : IVec S2x1024x5120 1 × IVec S6912 1 × IVec S6912 1 × IVec S6912x5120 1 :=
  let main_v18 : IVec S6912x5120 1 := andi main_v15 main_v17
  (main_v5, main_v8, main_v13, main_v18)

def fn {F : FTy → Type} [FloatOps F] (main_arg0 : FVec F S2x1024x5120 .bf16) (main_arg1 : IVec S6912x5120 8) (main_arg2 : FVec F S6912 .f32) (main_arg3 : FVec F S5120x3456 .fp8e4m3) (main_arg4 : FVec F S5120 .f32) : IVec S2x1024x5120 1 × IVec S6912 1 × IVec S6912 1 × IVec S6912x5120 1 :=
  let main_v0 : FVec F S2x1024x5120 .bf16 := Host.absf main_arg0
  let main_cst : FVec F S_ .bf16 := constant S_ .bf16 0xFF80#16
  let main_v1 : FVec F S_ .bf16 := (fun x v => Host.reduce FloatOps.maximumf x v reducesTo_S2x1024x5120_S_d0_1_2 h_S_) main_v0 main_cst
  let main_v2 : FVec F S_ .f32 := (extf .f32 · bitsLt_bf16_f32) main_v1
  let main_v3 : FVec F S2x1024x5120 .bf16 := Host.absf main_arg0
  let main_cst_0 : FVec F S_ .bf16 := constant S_ .bf16 0x7F7F#16
  let main_v4 : FVec F S2x1024x5120 .bf16 := broadcastInDim S2x1024x5120 ![] bcast_S_S2x1024x5120 main_cst_0
  let main_v5 : IVec S2x1024x5120 1 := cmpf .ole main_v3 main_v4
  let main_v6 : FVec F S6912 .f32 := Host.absf main_arg2
  let main_cst_1 : FVec F S_ .f32 := constant S_ .f32 0x7F7FC99E#32
  let main_v7 : FVec F S6912 .f32 := broadcastInDim S6912 ![] bcast_S_S6912 main_cst_1
  let main_v8 : IVec S6912 1 := cmpf .ole main_v6 main_v7
  let main_v9 : FVec F S6912 .f32 := Host.absf main_arg2
  let main_v10 : FVec F S6912 .f32 := broadcastInDim S6912 ![] bcast_S_S6912 main_v2
  let main_v11 : FVec F S6912 .f32 := mulf main_v9 main_v10
  let main_cst_2 : FVec F S_ .f32 := constant S_ .f32 0x56000000#32
  let main_v12 : FVec F S6912 .f32 := broadcastInDim S6912 ![] bcast_S_S6912 main_cst_2
  let main_v13 : IVec S6912 1 := cmpf .ole main_v11 main_v12
  let main_c : IVec S_ 8 := constantI S_ 8 127#8
  let main_v14 : IVec S6912x5120 8 := broadcastInDim S6912x5120 ![] bcast_S_S6912x5120 main_c
  let main_v15 : IVec S6912x5120 1 := cmpi .ne main_arg1 main_v14
  let main_c_3 : IVec S_ 8 := constantI S_ 8 255#8
  let main_v16 : IVec S6912x5120 8 := broadcastInDim S6912x5120 ![] bcast_S_S6912x5120 main_c_3
  let main_v17 : IVec S6912x5120 1 := cmpi .ne main_arg1 main_v16
  fn_part1 (F := F) main_v5 main_v8 main_v13 main_v15 main_v17
-- ==== Kernel.lean ====
abbrev S2x1024x5120 : Shape := ⟨3, ![2, 1024, 5120]⟩
abbrev S6912x5120 : Shape := ⟨2, ![6912, 5120]⟩
abbrev S6912 : Shape := ⟨1, ![6912]⟩
abbrev S5120x3456 : Shape := ⟨2, ![5120, 3456]⟩
abbrev S5120 : Shape := ⟨1, ![5120]⟩
abbrev S1x6912 : Shape := ⟨2, ![1, 6912]⟩
abbrev S2048x5120 : Shape := ⟨2, ![2048, 5120]⟩
abbrev S2048x1 : Shape := ⟨2, ![2048, 1]⟩
abbrev S2048x3456 : Shape := ⟨2, ![2048, 3456]⟩
abbrev S512x5120 : Shape := ⟨2, ![512, 5120]⟩
abbrev S384x5120 : Shape := ⟨2, ![384, 5120]⟩
abbrev S1x384 : Shape := ⟨2, ![1, 384]⟩
abbrev S512x1 : Shape := ⟨2, ![512, 1]⟩
abbrev S512x3456 : Shape := ⟨2, ![512, 3456]⟩
abbrev S9x512x384 : Shape := ⟨3, ![9, 512, 384]⟩
abbrev S512 : Shape := ⟨1, ![512]⟩
abbrev S1x256 : Shape := ⟨2, ![1, 256]⟩
abbrev S512x256 : Shape := ⟨2, ![512, 256]⟩
abbrev S512x384 : Shape := ⟨2, ![512, 384]⟩
abbrev S1x512x384 : Shape := ⟨3, ![1, 512, 384]⟩
abbrev S1x5120 : Shape := ⟨2, ![1, 5120]⟩
abbrev S1024x3456 : Shape := ⟨2, ![1024, 3456]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 14
  | .vmem => 29
  | .smem => 0
  | _ => 0

abbrev bufTy : (tb : Table) → Fin (tcTables nBuf tb) → BufTy
  | .hbm, ⟨0, _⟩ => ⟨S2x1024x5120, .bf16⟩
  | .hbm, ⟨1, _⟩ => ⟨S6912x5120, .i8⟩
  | .hbm, ⟨2, _⟩ => ⟨S6912, .f32⟩
  | .hbm, ⟨3, _⟩ => ⟨S5120x3456, .fp8e4m3⟩
  | .hbm, ⟨4, _⟩ => ⟨S5120, .f32⟩
  | .hbm, ⟨5, _⟩ => ⟨S6912x5120, .fp8e4m3⟩
  | .hbm, ⟨6, _⟩ => ⟨S1x6912, .f32⟩
  | .hbm, ⟨7, _⟩ => ⟨S2048x5120, .bf16⟩
  | .hbm, ⟨8, _⟩ => ⟨S2048x5120, .fp8e4m3⟩
  | .hbm, ⟨9, _⟩ => ⟨S2048x1, .f32⟩
  | .hbm, ⟨10, _⟩ => ⟨S2048x3456, .fp8e4m3⟩
  | .hbm, ⟨11, _⟩ => ⟨S2048x1, .f32⟩
  | .hbm, ⟨12, _⟩ => ⟨S1x5120, .f32⟩
  | .hbm, ⟨13, _⟩ => ⟨S2048x5120, .bf16⟩
  | .local _ .vmem, ⟨0, _⟩ => ⟨S512x5120, .bf16⟩
  | .local _ .vmem, ⟨1, _⟩ => ⟨S512x5120, .bf16⟩
  | .local _ .vmem, ⟨2, _⟩ => ⟨S384x5120, .fp8e4m3⟩
  | .local _ .vmem, ⟨3, _⟩ => ⟨S384x5120, .fp8e4m3⟩
  | .local _ .vmem, ⟨4, _⟩ => ⟨S384x5120, .fp8e4m3⟩
  | .local _ .vmem, ⟨5, _⟩ => ⟨S384x5120, .fp8e4m3⟩
  | .local _ .vmem, ⟨6, _⟩ => ⟨S1x384, .f32⟩
  | .local _ .vmem, ⟨7, _⟩ => ⟨S1x384, .f32⟩
  | .local _ .vmem, ⟨8, _⟩ => ⟨S1x384, .f32⟩
  | .local _ .vmem, ⟨9, _⟩ => ⟨S1x384, .f32⟩
  | .local _ .vmem, ⟨10, _⟩ => ⟨S512x5120, .fp8e4m3⟩
  | .local _ .vmem, ⟨11, _⟩ => ⟨S512x5120, .fp8e4m3⟩
  | .local _ .vmem, ⟨12, _⟩ => ⟨S512x1, .f32⟩
  | .local _ .vmem, ⟨13, _⟩ => ⟨S512x1, .f32⟩
  | .local _ .vmem, ⟨14, _⟩ => ⟨S512x3456, .fp8e4m3⟩
  | .local _ .vmem, ⟨15, _⟩ => ⟨S512x3456, .fp8e4m3⟩
  | .local _ .vmem, ⟨16, _⟩ => ⟨S512x1, .f32⟩
  | .local _ .vmem, ⟨17, _⟩ => ⟨S512x1, .f32⟩
  | .local _ .vmem, ⟨18, _⟩ => ⟨S9x512x384, .f32⟩
  | .local _ .vmem, ⟨19, _⟩ => ⟨S1024x3456, .fp8e4m3⟩
  | .local _ .vmem, ⟨20, _⟩ => ⟨S1024x3456, .fp8e4m3⟩
  | .local _ .vmem, ⟨21, _⟩ => ⟨S1024x1, .f32⟩
  | .local _ .vmem, ⟨22, _⟩ => ⟨S1024x1, .f32⟩
  | .local _ .vmem, ⟨23, _⟩ => ⟨S512x3456, .fp8e4m3⟩
  | .local _ .vmem, ⟨24, _⟩ => ⟨S512x3456, .fp8e4m3⟩
  | .local _ .vmem, ⟨25, _⟩ => ⟨S1x512, .f32⟩
  | .local _ .vmem, ⟨26, _⟩ => ⟨S1x512, .f32⟩
  | .local _ .vmem, ⟨27, _⟩ => ⟨S1024x512, .bf16⟩
  | .local _ .vmem, ⟨28, _⟩ => ⟨S1024x512, .bf16⟩
  | _, _ => ⟨S2x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27

abbrev nD : Nat := 1
abbrev τ : Topo := Topo.v7x

variable {F : FTy → Type} [FloatOps F]

abbrev grid0 : Pipeline.Grid := ⟨2, ![4, 9], ![false, false]⟩

def k0_off1 (i : grid0.Coords) : Fin 3 → Nat :=
  let arg1 : BitVec 32 := BitVec.ofNat 32 (i 1).val
  let v28 : Index := Scalar.indexCast arg1
  let c0_13 : Index := 0#32
  let c0_14 : Index := 0#32
  ![v28.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c8_i32 : BitVec 32 := 8#32
  let v32 : BitVec 1 := Scalar.cmpi .eq arg1 c8_i32
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3456 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x3456 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x3456 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S2x1024x5120 : Shape := ⟨3, ![2, 1024, 5120]⟩
abbrev S6912x5120 : Shape := ⟨2, ![6912, 5120]⟩
abbrev S6912 : Shape := ⟨1, ![6912]⟩
abbrev S5120x3456 : Shape := ⟨2, ![5120, 3456]⟩
abbrev S5120 : Shape := ⟨1, ![5120]⟩
abbrev S2048x5120 : Shape := ⟨2, ![2048, 5120]⟩
abbrev S1x6912 : Shape := ⟨2, ![1, 6912]⟩
abbrev S1x5120 : Shape := ⟨2, ![1, 5120]⟩
abbrev S2048x1 : Shape := ⟨2, ![2048, 1]⟩
abbrev S2048x3456 : Shape := ⟨2, ![2048, 3456]⟩
abbrev S2048 : Shape := ⟨1, ![2048]⟩
abbrev S1x256 : Shape := ⟨2, ![1, 256]⟩
abbrev S2048x256 : Shape := ⟨2, ![2048, 256]⟩
abbrev S2048x6912 : Shape := ⟨2, ![2048, 6912]⟩

abbrev nBuf : Space → Nat
  | .hbm => 14
  | .vmem => 10
  | .smem => 0
  | _ => 0

abbrev bufTy : (tb : Table) → Fin (tcTables nBuf tb) → BufTy
  | .hbm, ⟨0, _⟩ => ⟨S2x1024x5120, .bf16⟩
  | .hbm, ⟨1, _⟩ => ⟨S6912x5120, .i8⟩
  | .hbm, ⟨2, _⟩ => ⟨S6912, .f32⟩
  | .hbm, ⟨3, _⟩ => ⟨S5120x3456, .fp8e4m3⟩
  | .hbm, ⟨4, _⟩ => ⟨S5120, .f32⟩
  | .hbm, ⟨5, _⟩ => ⟨S6912x5120, .fp8e4m3⟩
  | .hbm, ⟨6, _⟩ => ⟨S2048x5120, .bf16⟩
  | .hbm, ⟨7, _⟩ => ⟨S1x6912, .f32⟩
  | .hbm, ⟨8, _⟩ => ⟨S1x5120, .f32⟩
  | .hbm, ⟨9, _⟩ => ⟨S2048x5120, .bf16⟩
  | .hbm, ⟨10, _⟩ => ⟨S2048x5120, .fp8e4m3⟩
  | .hbm, ⟨11, _⟩ => ⟨S2048x1, .f32⟩
  | .hbm, ⟨12, _⟩ => ⟨S2048x3456, .fp8e4m3⟩
  | .hbm, ⟨13, _⟩ => ⟨S2048x1, .f32⟩
  | .local _ .vmem, ⟨0, _⟩ => ⟨S2048x5120, .bf16⟩
  | .local _ .vmem, ⟨1, _⟩ => ⟨S6912x5120, .fp8e4m3⟩
  | .local _ .vmem, ⟨2, _⟩ => ⟨S1x6912, .f32⟩
  | .local _ .vmem, ⟨3, _⟩ => ⟨S5120x3456, .fp8e4m3⟩
  | .local _ .vmem, ⟨4, _⟩ => ⟨S1x5120, .f32⟩
  | .local _ .vmem, ⟨5, _⟩ => ⟨S2048x5120, .bf16⟩
  | .local _ .vmem, ⟨6, _⟩ => ⟨S2048x5120, .fp8e4m3⟩
  | .local _ .vmem, ⟨7, _⟩ => ⟨S2048x1, .f32⟩
  | .local _ .vmem, ⟨8, _⟩ => ⟨S2048x3456, .fp8e4m3⟩
  | .local _ .vmem, ⟨9, _⟩ => ⟨S2048x1, .f32⟩
  | _, _ => ⟨S2x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2048x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6912x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x3456 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x3456 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.BitsGateNames.lean ====
module

public import proofs.«01_k».proof.Proof.Gen.Kernel.Skeleton
public import Idealize.ShloMosaic.Lib.Pipeline.Kit
public import Idealize.ShloMosaic.Lib.Pipeline.Value
public import Idealize.ShloMosaic.Lib.VecWindow
public import Idealize.ShloMosaic.Lib.Pipeline.FrameBody
public import Idealize.ShloMosaic.Lib.Tactic

@[expose] public section

set_option maxRecDepth 16384

noncomputable section

namespace Cert.Kernel.Gate

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # What one point of the gate/up pipeline leaves, by name

The first `pallas_call` visits, for each row block of `x`, nine column blocks.  These definitions name what the body
stores: the codes and the scales of `x` (at the first column block), one slice of the kept activations (at every
column block), and the codes and the scales of the activations (at the last). -/

/-- Slice `k` of the kept activations `D`. -/
def sl0 (D : Vec F S9x512x384 .f32) : Vec F S1x512x384 .f32 := View.ld D (Rect.unit (s := S9x512x384) ![0, 0, 0] S1x512x384.size inb_S9x512x384_S1x512x384_0_0_0)
@[inherit_doc sl0] def sl1 (D : Vec F S9x512x384 .f32) : Vec F S1x512x384 .f32 := View.ld D (Rect.unit (s := S9x512x384) ![1, 0, 0] S1x512x384.size inb_S9x512x384_S1x512x384_1_0_0)
@[inherit_doc sl0] def sl2 (D : Vec F S9x512x384 .f32) : Vec F S1x512x384 .f32 := View.ld D (Rect.unit (s := S9x512x384) ![2, 0, 0] S1x512x384.size inb_S9x512x384_S1x512x384_2_0_0)
@[inherit_doc sl0] def sl3 (D : Vec F S9x512x384 .f32) : Vec F S1x512x384 .f32 := View.ld D (Rect.unit (s := S9x512x384) ![3, 0, 0] S1x512x384.size inb_S9x512x384_S1x512x384_3_0_0)
@[inherit_doc sl0] def sl4 (D : Vec F S9x512x384 .f32) : Vec F S1x512x384 .f32 := View.ld D (Rect.unit (s := S9x512x384) ![4, 0, 0] S1x512x384.size inb_S9x512x384_S1x512x384_4_0_0)
@[inherit_doc sl0] def sl5 (D : Vec F S9x512x384 .f32) : Vec F S1x512x384 .f32 := View.ld D (Rect.unit (s := S9x512x384) ![5, 0, 0] S1x512x384.size inb_S9x512x384_S1x512x384_5_0_0)
@[inherit_doc sl0] def sl6 (D : Vec F S9x512x384 .f32) : Vec F S1x512x384 .f32 := View.ld D (Rect.unit (s := S9x512x384) ![6, 0, 0] S1x512x384.size inb_S9x512x384_S1x512x384_6_0_0)
@[inherit_doc sl0] def sl7 (D : Vec F S9x512x384 .f32) : Vec F S1x512x384 .f32 := View.ld D (Rect.unit (s := S9x512x384) ![7, 0, 0] S1x512x384.size inb_S9x512x384_S1x512x384_7_0_0)
@[inherit_doc sl0] def sl8 (D : Vec F S9x512x384 .f32) : Vec F S1x512x384 .f32 := View.ld D (Rect.unit (s := S9x512x384) ![8, 0, 0] S1x512x384.size inb_S9x512x384_S1x512x384_8_0_0)

/-- The codes of a row block of `x`. -/
def xcOf (x : Vec F S512x5120 .bf16) : Vec F S512x5120 .fp8e4m3 := k0_pay21 (k0_pay1 x) (k0_pay4 x)

/-- The scales of a row block of `x`. -/
def xsOf (x : Vec F S512x5120 .bf16) : Vec F S512x1 .f32 := k0_pay3 x

/-- The greatest absolute activations over slices 0 to 7, elementwise. -/
def top (D : Vec F S9x512x384 .f32) : FVec F S512x384 .f32 := k0_pay5 (sl0 D) (sl1 D) (sl2 D) (sl3 D) (sl4 D) (sl5 D) (sl6 D) (sl7 D)

/-- The scales of the activations. -/
def hsOf (D : Vec F S9x512x384 .f32) : Vec F S512x1 .f32 := k0_pay8 (top D) (k0_pay6 (sl8 D))

/-- The reciprocals of those scales. -/
def hinvOf (D : Vec F S9x512x384 .f32) : FVec F S512x1 .f32 := k0_pay9 (top D) (k0_pay6 (sl8 D))

/-- The codes of the activations: nine column blocks, one of each slice. -/
def hcOf (D : Vec F S9x512x384 .f32) : Vec F S512x3456 .fp8e4m3 :=
  View.canon (Val := Elt F) (s := S512x3456) (e := .fp8e4m3) [
    ⟨Rect.unit (s := S512x3456) ![0, 3072] S512x384.size inb_S512x3456_S512x384_0_3072, k0_pay24 (hinvOf D) (sl8 D)⟩,
    ⟨Rect.unit (s := S512x3456) ![0, 2688] S512x384.size inb_S512x3456_S512x384_0_2688, k0_pay23 (hinvOf D) (sl7 D)⟩,
    ⟨Rect.unit (s := S512x3456) ![0, 2304] S512x384.size inb_S512x3456_S512x384_0_2304, k0_pay20 (hinvOf D) (sl6 D)⟩,
    ⟨Rect.unit (s := S512x3456) ![0, 1920] S512x384.size inb_S512x3456_S512x384_0_1920, k0_pay19 (hinvOf D) (sl5 D)⟩,
    ⟨Rect.unit (s := S512x3456) ![0, 1536] S512x384.size inb_S512x3456_S512x384_0_1536, k0_pay18 (hinvOf D) (sl4 D)⟩,
    ⟨Rect.unit (s := S512x3456) ![0, 1152] S512x384.size inb_S512x3456_S512x384_0_1152, k0_pay17 (k0_pay15 (hinvOf D) (sl3 D)) (k0_pay16 (F := F))⟩,
    ⟨Rect.unit (s := S512x3456) ![0, 768] S512x384.size inb_S512x3456_S512x384_0_768, k0_pay14 (hinvOf D) (sl2 D)⟩,
    ⟨Rect.unit (s := S512x3456) ![0, 384] S512x384.size inb_S512x3456_S512x384_0_384, k0_pay13 (hinvOf D) (sl1 D)⟩,
    ⟨Rect.unit (s := S512x3456) ![0, 0] S512x384.size inb_S512x3456_S512x384_0_0, k0_pay12 (k0_pay10 (sl0 D)) (k0_pay11 (top D) (k0_pay6 (sl8 D)))⟩]

/-- The kept activations `f` with the slice of the point `i` replaced by `h`. -/
def putAt (i : grid0.Coords) (f : Vec F S9x512x384 .f32) (h : Vec F S1x512x384 .f32) : Vec F S9x512x384 .f32 :=
  VecWindow.put f (k0_off1 i) S1x512x384.size h

/-- A load of a whole buffer reads its contents. -/
theorem read_whole {s : Shape} {e : EltTy} {m : Memref sig .tc .vmem s e} (h : m.IsWhole) (x : s.Idx → Elt F e) {off : Fin s.rank → ℕ}
    (inb : ∀ a, off a + s.size a ≤ s.size a) : m.view.readAt (Elt F) (Rect.unit off s.size inb).toLoadRect (h.unread x) = x :=
  (View.readAt_full _ _ inb).trans (h.read_unread x)

/-- The kept activations after the store of one slice. -/
theorem read_putAt {m : Memref sig .tc .vmem S9x512x384 .f32} (hm : m.IsWhole) (i : grid0.Coords) (D : Vec F S9x512x384 .f32)
    (h : Vec F S1x512x384 .f32) (inb : ∀ a, k0_off1 i a + S1x512x384.size a ≤ S9x512x384.size a) :
    m.view.read (Elt F) (m.view.writes (Elt F) (hm.unread D) [⟨Rect.unit (k0_off1 i) S1x512x384.size inb, h⟩]) = putAt i D h := by
  rw [View.read_writes_cons_put _ _ _ _ _ rfl, View.writes_nil, hm.read_unread]; rfl

/-- A load of a slice after that store. -/
theorem load_putAt {m : Memref sig .tc .vmem S9x512x384 .f32} (hm : m.IsWhole) (i : grid0.Coords) (D : Vec F S9x512x384 .f32)
    (h : Vec F S1x512x384 .f32) (inb : ∀ a, k0_off1 i a + S1x512x384.size a ≤ S9x512x384.size a) {off : Fin 3 → ℕ}
    (inb' : ∀ a, off a + S1x512x384.size a ≤ S9x512x384.size a) :
    m.view.readAt (Elt F) (Rect.unit (s := S9x512x384) off S1x512x384.size inb').toLoadRect
        (m.view.writes (Elt F) (hm.unread D) [⟨Rect.unit (k0_off1 i) S1x512x384.size inb, h⟩])
      = View.ld (putAt i D h) (Rect.unit (s := S9x512x384) off S1x512x384.size inb') := by
  rw [View.readAt_eq_ld, read_putAt]

end Cert.Kernel.Gate

end
-- ==== Proof.BitsGateDat.lean ====
module

public import proofs.«01_k».proof.Proof.Gen.Kernel.Launch
public import proofs.«01_k».proof.Proof.Gen.Kernel.Points
public import proofs.«01_k».proof.Proof.BitsGateNames

@[expose] public section

set_option maxRecDepth 16384

noncomputable section

namespace Cert.Kernel.Gate

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the gate/up pipeline

`V` is what every buffer holds when the pipeline is entered.  A point's number is `9 * r + n` at row block `r` and
column block `n`. -/

variable (V : (c : Dev nD) → (b : Ref sig .tc) → Buf (Elt F) ((c : Thread nD τ).loc b))

/-- The part of window `w`'s array that point `t` works on. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem lt36 (t : Fin cfg0.N) : t.val < 36 := lt_of_lt_of_eq t.isLt N_0

/-- The point of the given number. -/
def pt (n : ℕ) (h : n < 36) : Fin cfg0.N := ⟨n, lt_of_lt_of_eq h N_0.symm⟩

/-- The slice of the activations that point `s` computes. -/
def hAt (c : Dev nD) (s : Fin cfg0.N) : Vec F S1x512x384 .f32 :=
  k0_pay22 (xcOf (iblk V c 0 s)) (xsOf (iblk V c 0 s)) (iblk V c 1 s) (iblk V c 2 s) (iblk V c 3 s) (iblk V c 4 s)

/-- An index within a slice. -/
def inSlice (y : S9x512x384.Idx) : S1x512x384.Idx := fun a => match a with
  | 0 => ⟨0, by decide⟩
  | 1 => ⟨(y 1).val, (y 1).isLt⟩
  | 2 => ⟨(y 2).val, (y 2).isLt⟩

/-- All nine slices of the row block of point `t`. -/
def Dfull (c : Dev nD) (t : Fin cfg0.N) : Vec F S9x512x384 .f32 := fun y =>
  hAt V c (pt (9 * (t.val / 9) + (y 0).val) (by have h1 := lt36 t; have h2 : (y 0).val < 9 := (y 0).isLt; omega)) (inSlice y)

/-- Slice `s` of kept activations. -/
abbrev sliceOf (D : Vec F S9x512x384 .f32) (s : Fin cfg0.N) : Vec F S1x512x384 .f32 :=
  VecWindow.window (s := S9x512x384) D (k0_off1 (grid0.coords s)) S1x512x384.size (k0_off1_inb (grid0.coords s))

/-- Before point `k` the kept activations hold the slices the earlier points of the same row block computed. -/
def Kept (c : Dev nD) (k : ℕ) (D : Vec F S9x512x384 .f32) : Prop :=
  ∀ s : Fin cfg0.N, s.val < k → k ≤ s.val / 9 * 9 + 9 → sliceOf D s = hAt V c s

theorem off_val : ∀ t : Fin grid0.N, k0_off1 (grid0.coords t) 0 = t.val % 9 := by decide +kernel
theorem cond1_iff : ∀ t : Fin grid0.N, k0_cond1 (grid0.coords t) = 1#1 ↔ t.val % 9 = 0 := by decide +kernel
theorem cond2_iff : ∀ t : Fin grid0.N, k0_cond2 (grid0.coords t) = 1#1 ↔ t.val % 9 = 8 := by decide +kernel

theorem kept_zero (c : Dev nD) (D : Vec F S9x512x384 .f32) : Kept V c 0 D := fun _ h => absurd h (Nat.not_lt_zero _)

/-- Storing point `t`'s slice keeps the earlier ones. -/
theorem kept_succ (c : Dev nD) (t : Fin cfg0.N) (D : Vec F S9x512x384 .f32) (h : Kept V c t.val D) :
    Kept V c (t.val + 1) (putAt (grid0.coords t) D (hAt V c t)) := by
  intro s hs hk
  by_cases e : s = t
  · subst e; exact VecWindow.window_put_same _ _ _ _ _
  · have hne : s.val ≠ t.val := fun he => e (Fin.ext he)
    have hlt : s.val < t.val := by omega
    refine (VecWindow.window_put_of_disjoint _ _ _ _ _ _ _ (0 : Fin 3) ?_).trans (h s hlt (by omega))
    rw [off_val t, off_val s]
    show s.val % 9 + 1 ≤ t.val % 9 ∨ t.val % 9 + 1 ≤ s.val % 9
    omega

/-- After the last point of a row block all nine slices are there. -/
theorem kept_full (c : Dev nD) (t : Fin cfg0.N) (h8 : t.val % 9 = 8) (D : Vec F S9x512x384 .f32) (h : Kept V c (t.val + 1) D) :
    D = Dfull V c t := by
  funext y
  have h1 := lt36 t
  have h2 : (y 0).val < 9 := (y 0).isLt
  have hb : 9 * (t.val / 9) + (y 0).val < 36 := by omega
  have hs := congrFun (h (pt (9 * (t.val / 9) + (y 0).val) hb) (by show 9 * (t.val / 9) + (y 0).val < t.val + 1; omega)
    (by show t.val + 1 ≤ (9 * (t.val / 9) + (y 0).val) / 9 * 9 + 9; omega)) (inSlice y)
  refine Eq.trans (congrArg D ?_) hs
  funext a
  refine Fin.ext ?_
  fin_cases a
  · show (y 0).val = k0_off1 (grid0.coords (pt (9 * (t.val / 9) + (y 0).val) hb)) 0 + 1 * 0
    rw [off_val]; show (y 0).val = (9 * (t.val / 9) + (y 0).val) % 9 + 1 * 0; omega
  · show (y 1).val = 0 + 1 * (y 1).val; omega
  · show (y 2).val = 0 + 1 * (y 2).val; omega

/-- The buffers of the other pipeline, untouched here. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What holds before point `k`: the kept activations as `Kept` says. -/
def PhiK (c : Dev nD) (k : ℕ) : sProp 𝕄 :=
  iprop((∃ D, ⌜Kept V c k D⌝ ∗ owns (c : Thread nD τ) (Memref.whole cc0_scratch0) fullShare D) ∗ others c)

/-- The pipeline's proof data. -/
def gdat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => xcOf (iblk V c 0 t)
    | ⟨6, _⟩ => xsOf (iblk V c 0 t)
    | ⟨7, _⟩ => hcOf (Dfull V c t)
    | ⟨8, _⟩ => hsOf (Dfull V c t)
  Φ k := PhiK V c k.val
  q w := Pipeline.shareOf spec0 w
  owed _ := 0

theorem A_eq (c : Dev nD) (w : Fin cfg0.W) : (gdat V c).A w = V c (Pipeline.arrRef spec0 w) := by dsimp only [gdat]

theorem after_0 (c : Dev nD) (t : Fin cfg0.N) : (gdat V c).after 0 t = iblk V c 0 t := by dsimp only [gdat]
theorem after_1 (c : Dev nD) (t : Fin cfg0.N) : (gdat V c).after 1 t = iblk V c 1 t := by dsimp only [gdat]
theorem after_2 (c : Dev nD) (t : Fin cfg0.N) : (gdat V c).after 2 t = iblk V c 2 t := by dsimp only [gdat]
theorem after_3 (c : Dev nD) (t : Fin cfg0.N) : (gdat V c).after 3 t = iblk V c 3 t := by dsimp only [gdat]
theorem after_4 (c : Dev nD) (t : Fin cfg0.N) : (gdat V c).after 4 t = iblk V c 4 t := by dsimp only [gdat]
theorem after_5 (c : Dev nD) (t : Fin cfg0.N) : (gdat V c).after 5 t = xcOf (iblk V c 0 t) := by dsimp only [gdat]
theorem after_6 (c : Dev nD) (t : Fin cfg0.N) : (gdat V c).after 6 t = xsOf (iblk V c 0 t) := by dsimp only [gdat]
theorem after_7 (c : Dev nD) (t : Fin cfg0.N) : (gdat V c).after 7 t = hcOf (Dfull V c t) := by dsimp only [gdat]
theorem after_8 (c : Dev nD) (t : Fin cfg0.N) : (gdat V c).after 8 t = hsOf (Dfull V c t) := by dsimp only [gdat]

/-! ## What the body finds in the windows' staging buffers -/

theorem before_0 (c : Dev nD) (t : Fin cfg0.N) (d) : (gdat V c).before 0 t d = iblk V c 0 t :=
  ((gdat V c).before_in_eq_fetched 0 rfl (fun _ => rfl) (fun _ _ _ => rfl) (fun t => by rw [after_0]; unfold Dat.blockOf iblk; rw [A_eq]; try rfl) t d).trans (by unfold Dat.fetched Dat.blockOf iblk; rw [A_eq]; try rfl)
theorem before_1 (c : Dev nD) (t : Fin cfg0.N) (d) : (gdat V c).before 1 t d = iblk V c 1 t :=
  ((gdat V c).before_in_eq_fetched 1 rfl (fun _ => rfl) (fun _ _ _ => rfl) (fun t => by rw [after_1]; unfold Dat.blockOf iblk; rw [A_eq]; try rfl) t d).trans (by unfold Dat.fetched Dat.blockOf iblk; rw [A_eq]; try rfl)
theorem before_2 (c : Dev nD) (t : Fin cfg0.N) (d) : (gdat V c).before 2 t d = iblk V c 2 t :=
  ((gdat V c).before_in_eq_fetched 2 rfl (fun _ => rfl) (fun _ _ _ => rfl) (fun t => by rw [after_2]; unfold Dat.blockOf iblk; rw [A_eq]; try rfl) t d).trans (by unfold Dat.fetched Dat.blockOf iblk; rw [A_eq]; try rfl)
theorem before_3 (c : Dev nD) (t : Fin cfg0.N) (d) : (gdat V c).before 3 t d = iblk V c 3 t :=
  ((gdat V c).before_in_eq_fetched 3 rfl (fun _ => rfl) (fun _ _ _ => rfl) (fun t => by rw [after_3]; unfold Dat.blockOf iblk; rw [A_eq]; try rfl) t d).trans (by unfold Dat.fetched Dat.blockOf iblk; rw [A_eq]; try rfl)
theorem before_4 (c : Dev nD) (t : Fin cfg0.N) (d) : (gdat V c).before 4 t d = iblk V c 4 t :=
  ((gdat V c).before_in_eq_fetched 4 rfl (fun _ => rfl) (fun _ _ _ => rfl) (fun t => by rw [after_4]; unfold Dat.blockOf iblk; rw [A_eq]; try rfl) t d).trans (by unfold Dat.fetched Dat.blockOf iblk; rw [A_eq]; try rfl)

/-- The point before. -/
abbrev prev (t : Fin cfg0.N) : Fin cfg0.N := ⟨t.val - 1, Nat.lt_of_le_of_lt (Nat.sub_le _ _) t.isLt⟩

/-- Within a row block the rows of `x` stay the same. -/
theorem iblk_prev (c : Dev nD) (t : Fin cfg0.N) (h : t.val % 9 ≠ 0) : iblk V c 0 (prev t) = iblk V c 0 t := by
  have hf : (cfg0.win 0).fetch t = false := Bool.eq_false_iff.mpr fun e => h ((fetch0_0 t).mp e)
  rw [← before_0 V c t (iblk V c 0 t), (gdat V c).before_unfetched_in 0 rfl t hf (fun _ => rfl)]
  unfold Dat.kept
  rw [after_0]; rfl

theorem idle_5 (t : Fin cfg0.N) (h : t.val % 9 ≠ 0) : cfg0.idle 5 (cfg0.grid.coords t) = true := by
  show (!(k0_cond1 (grid0.coords t) == 1#1)) = true
  simpa using fun e => h ((cond1_iff t).mp e)
theorem live_5 (t : Fin cfg0.N) (h : t.val % 9 = 0) : cfg0.idle 5 (cfg0.grid.coords t) = false := by
  show (!(k0_cond1 (grid0.coords t) == 1#1)) = false
  simpa using (cond1_iff t).mpr h
theorem idle_7 (t : Fin cfg0.N) (h : t.val % 9 ≠ 8) : cfg0.idle 7 (cfg0.grid.coords t) = true := by
  show (!(k0_cond2 (grid0.coords t) == 1#1)) = true
  simpa using fun e => h ((cond2_iff t).mp e)
theorem live_7 (t : Fin cfg0.N) (h : t.val % 9 = 8) : cfg0.idle 7 (cfg0.grid.coords t) = false := by
  show (!(k0_cond2 (grid0.coords t) == 1#1)) = false
  simpa using (cond2_iff t).mpr h

/-- After the first point of a row block the codes of `x` are kept to its end. -/
theorem before_5 (c : Dev nD) (d) : ∀ (n : ℕ) (hn : n < cfg0.N), n % 9 ≠ 0 → (gdat V c).before 5 ⟨n, hn⟩ d = xcOf (iblk V c 0 ⟨n, hn⟩) := by
  intro n
  induction n with
  | zero => intro _ h; exact absurd rfl h
  | succ n ih =>
    intro hn h
    have hf : (cfg0.win 5).flush (prev ⟨n + 1, hn⟩) = false := Bool.eq_false_iff.mpr fun e => by
      have := (flush0_5 _).mp e
      have e' : n % 9 = 8 := this
      omega
    rw [(gdat V c).before_of_pos 5 ⟨n + 1, hn⟩ (Nat.succ_ne_zero n) ((cfg0.win 5).fetch_out rfl _), hf, if_neg Bool.false_ne_true, ← iblk_prev V c ⟨n + 1, hn⟩ h]
    unfold Dat.left
    by_cases h0 : n % 9 = 0
    · rw [live_5 (prev ⟨n + 1, hn⟩) h0]
      show (gdat V c).kept 5 _ d = _
      unfold Dat.kept
      rw [after_5]; rfl
    · rw [idle_5 (prev ⟨n + 1, hn⟩) h0]
      exact ih _ h0

/-- And its scales. -/
theorem before_6 (c : Dev nD) (d) : ∀ (n : ℕ) (hn : n < cfg0.N), n % 9 ≠ 0 → (gdat V c).before 6 ⟨n, hn⟩ d = xsOf (iblk V c 0 ⟨n, hn⟩) := by
  intro n
  induction n with
  | zero => intro _ h; exact absurd rfl h
  | succ n ih =>
    intro hn h
    have hf : (cfg0.win 6).flush (prev ⟨n + 1, hn⟩) = false := Bool.eq_false_iff.mpr fun e => by
      have := (flush0_6 _).mp e
      have e' : n % 9 = 8 := this
      omega
    rw [(gdat V c).before_of_pos 6 ⟨n + 1, hn⟩ (Nat.succ_ne_zero n) ((cfg0.win 6).fetch_out rfl _), hf, if_neg Bool.false_ne_true, ← iblk_prev V c ⟨n + 1, hn⟩ h]
    unfold Dat.left
    by_cases h0 : n % 9 = 0
    · rw [show cfg0.idle 6 (cfg0.grid.coords (prev ⟨n + 1, hn⟩)) = false from live_5 (prev ⟨n + 1, hn⟩) h0]
      show (gdat V c).kept 6 _ d = _
      unfold Dat.kept
      rw [after_6]; rfl
    · rw [show cfg0.idle 6 (cfg0.grid.coords (prev ⟨n + 1, hn⟩)) = true from idle_5 (prev ⟨n + 1, hn⟩) h0]
      exact ih _ h0

end Cert.Kernel.Gate

end
-- ==== Proof.BitsGateRunA.lean ====
module

public import proofs.«01_k».proof.Proof.Gen.Kernel.Skeleton
public import Idealize.ShloMosaic.Lib.Pipeline.Kit
public import Idealize.ShloMosaic.Lib.Pipeline.Value
public import Idealize.ShloMosaic.Lib.VecWindow
public import Idealize.ShloMosaic.Lib.Pipeline.FrameBody
public import Idealize.ShloMosaic.Lib.Tactic
public import proofs.«01_k».proof.Proof.BitsGateNames

@[expose] public section

set_option maxRecDepth 16384

noncomputable section

namespace Cert.Kernel.Gate

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first point of a row of column blocks: the codes and the scales of `x`, and the first slice of the activations. -/
theorem runA (c : Dev nD) (i : grid0.Coords) (arg2 : Memref sig .tc .vmem S512x5120 .bf16) (harg2 : arg2.IsWhole) (arg3 : Memref sig .tc .vmem S384x5120 .fp8e4m3) (harg3 : arg3.IsWhole) (arg4 : Memref sig .tc .vmem S384x5120 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x3456 .fp8e4m3) (harg9 : arg9.IsWhole) (arg10 : Memref sig .tc .vmem S512x1 .f32) (harg10 : arg10.IsWhole) (arg11 : Memref sig .tc .vmem S9x512x384 .f32) (harg11 : arg11.IsWhole)
    (hc0 : k0_cond1 i = 1#1) (hc1 : ¬ k0_cond2 i = 1#1)
    (x0 : Vec F S512x5120 .bf16) (x1 : Vec F S384x5120 .fp8e4m3) (x2 : Vec F S384x5120 .fp8e4m3) (x3 : Vec F S1x384 .f32) (x4 : Vec F S1x384 .f32)
    (y5 : Vec F S512x5120 .fp8e4m3) (y6 : Vec F S512x1 .f32) (y7 : Vec F S512x3456 .fp8e4m3) (y8 : Vec F S512x1 .f32) (D : Vec F S9x512x384 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare D
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (xcOf x0) ∗ owns (c : Thread nD τ) arg8 fullShare (xsOf x0) ∗ owns (c : Thread nD τ) arg9 fullShare y7 ∗ owns (c : Thread nD τ) arg10 fullShare y8 ∗ owns (c : Thread nD τ) arg11 fullShare (putAt i D (k0_pay22 (xcOf x0) (xsOf x0) x1 x2 x3 x4))) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
  intro E K
  simp only [cc0_gate_up_eq_skeleton]; unfold cc0_gate_up_skel
  simp only [k0_part6_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words; rw [View.read_writes_full, read_whole harg2]; rfl
  isplitl [H6]
  · iexists _; isplitr; swap; · iexact H6
    ipureintro
    sl_unfold_words; rw [View.read_writes_full, read_whole harg2]; rfl
  isplitl [H7]
  · iexists _; isplitr; swap; · iexact H7
    ipureintro
    exact harg9.read_unread _
  isplitl [H8]
  · iexists _; isplitr; swap; · iexact H8
    ipureintro
    exact harg10.read_unread _
  iexists _; isplitr; swap; · iexact HS
  ipureintro
  sl_unfold_words; rw [View.readCov_full, View.readCov_full, read_whole harg2, read_whole harg3, read_whole harg4, read_whole harg5, read_whole harg6]; exact read_putAt harg11 _ _ _ _

end Cert.Kernel.Gate

end
-- ==== Proof.BitsGateRunB.lean ====
module

public import proofs.«01_k».proof.Proof.Gen.Kernel.Skeleton
public import Idealize.ShloMosaic.Lib.Pipeline.Kit
public import Idealize.ShloMosaic.Lib.Pipeline.Value
public import Idealize.ShloMosaic.Lib.VecWindow
public import Idealize.ShloMosaic.Lib.Pipeline.FrameBody
public import Idealize.ShloMosaic.Lib.Tactic
public import proofs.«01_k».proof.Proof.BitsGateNames

@[expose] public section

set_option maxRecDepth 16384

noncomputable section

namespace Cert.Kernel.Gate

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- A point at neither end of its row of column blocks: one more slice of the activations, everything else as found. -/
theorem runB (c : Dev nD) (i : grid0.Coords) (arg2 : Memref sig .tc .vmem S512x5120 .bf16) (harg2 : arg2.IsWhole) (arg3 : Memref sig .tc .vmem S384x5120 .fp8e4m3) (harg3 : arg3.IsWhole) (arg4 : Memref sig .tc .vmem S384x5120 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x3456 .fp8e4m3) (harg9 : arg9.IsWhole) (arg10 : Memref sig .tc .vmem S512x1 .f32) (harg10 : arg10.IsWhole) (arg11 : Memref sig .tc .vmem S9x512x384 .f32) (harg11 : arg11.IsWhole)
    (hc0 : ¬ k0_cond1 i = 1#1) (hc1 : ¬ k0_cond2 i = 1#1)
    (x0 : Vec F S512x5120 .bf16) (x1 : Vec F S384x5120 .fp8e4m3) (x2 : Vec F S384x5120 .fp8e4m3) (x3 : Vec F S1x384 .f32) (x4 : Vec F S1x384 .f32)
    (y5 : Vec F S512x5120 .fp8e4m3) (y6 : Vec F S512x1 .f32) (y7 : Vec F S512x3456 .fp8e4m3) (y8 : Vec F S512x1 .f32) (D : Vec F S9x512x384 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare D
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare (putAt i D (k0_pay22 y5 y6 x1 x2 x3 x4))) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
  intro E K
  simp only [cc0_gate_up_eq_skeleton]; unfold cc0_gate_up_skel
  simp only [k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact harg7.read_unread _
  isplitl [H6]
  · iexists _; isplitr; swap; · iexact H6
    ipureintro
    exact harg8.read_unread _
  isplitl [H7]
  · iexists _; isplitr; swap; · iexact H7
    ipureintro
    exact harg9.read_unread _
  isplitl [H8]
  · iexists _; isplitr; swap; · iexact H8
    ipureintro
    exact harg10.read_unread _
  iexists _; isplitr; swap; · iexact HS
  ipureintro
  rw [read_whole harg7, read_whole harg8, read_whole harg3, read_whole harg4, read_whole harg5, read_whole harg6]; exact read_putAt harg11 _ _ _ _

end Cert.Kernel.Gate

end
-- ==== Proof.BitsGateRunC.lean ====
module

public import proofs.«01_k».proof.Proof.Gen.Kernel.Skeleton
public import Idealize.ShloMosaic.Lib.Pipeline.Kit
public import Idealize.ShloMosaic.Lib.Pipeline.Value
public import Idealize.ShloMosaic.Lib.VecWindow
public import Idealize.ShloMosaic.Lib.Pipeline.FrameBody
public import Idealize.ShloMosaic.Lib.Tactic
public import Idealize.ShloMosaic.Lib.Pipeline.ValueKit.Tiles
public import proofs.«01_k».proof.Proof.BitsGateNames

@[expose] public section

set_option maxRecDepth 16384

noncomputable section

namespace Cert.Kernel.Gate

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last point of a row of column blocks: the last slice of the activations, then their codes and their scales. -/
theorem runC (c : Dev nD) (i : grid0.Coords) (arg2 : Memref sig .tc .vmem S512x5120 .bf16) (harg2 : arg2.IsWhole) (arg3 : Memref sig .tc .vmem S384x5120 .fp8e4m3) (harg3 : arg3.IsWhole) (arg4 : Memref sig .tc .vmem S384x5120 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x3456 .fp8e4m3) (harg9 : arg9.IsWhole) (arg10 : Memref sig .tc .vmem S512x1 .f32) (harg10 : arg10.IsWhole) (arg11 : Memref sig .tc .vmem S9x512x384 .f32) (harg11 : arg11.IsWhole)
    (hc0 : ¬ k0_cond1 i = 1#1) (hc1 : k0_cond2 i = 1#1)
    (x0 : Vec F S512x5120 .bf16) (x1 : Vec F S384x5120 .fp8e4m3) (x2 : Vec F S384x5120 .fp8e4m3) (x3 : Vec F S1x384 .f32) (x4 : Vec F S1x384 .f32)
    (y5 : Vec F S512x5120 .fp8e4m3) (y6 : Vec F S512x1 .f32) (y7 : Vec F S512x3456 .fp8e4m3) (y8 : Vec F S512x1 .f32) (D : Vec F S9x512x384 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare D
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare (hcOf (putAt i D (k0_pay22 y5 y6 x1 x2 x3 x4))) ∗ owns (c : Thread nD τ) arg10 fullShare (hsOf (putAt i D (k0_pay22 y5 y6 x1 x2 x3 x4))) ∗ owns (c : Thread nD τ) arg11 fullShare (putAt i D (k0_pay22 y5 y6 x1 x2 x3 x4))) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
  intro E K
  simp only [cc0_gate_up_eq_skeleton]; unfold cc0_gate_up_skel
  simp only [k0_part6_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact harg7.read_unread _
  isplitl [H6]
  · iexists _; isplitr; swap; · iexact H6
    ipureintro
    exact harg8.read_unread _
  isplitl [H7]
  · iexists _; isplitr; swap; · iexact H7
    ipureintro
    sl_unfold_words; rw [read_whole harg7, read_whole harg8, read_whole harg3, read_whole harg4, read_whole harg5, read_whole harg6]
    generalize hW : arg11.view.writes (Elt F) (harg11.unread D) _ = W
    have hr : arg11.view.read (Elt F) W = putAt i D (k0_pay22 y5 y6 x1 x2 x3 x4) := by subst hW; exact read_putAt harg11 _ _ _ _
    rw [← hr]; exact View.read_writes_eq_canon _ _ _ (View.cover_of_tiled_head _ _ _ (by rfl))
  isplitl [H8]
  · iexists _; isplitr; swap; · iexact H8
    ipureintro
    sl_unfold_words; rw [read_whole harg7, read_whole harg8, read_whole harg3, read_whole harg4, read_whole harg5, read_whole harg6]
    generalize hW : arg11.view.writes (Elt F) (harg11.unread D) _ = W
    have hr : arg11.view.read (Elt F) W = putAt i D (k0_pay22 y5 y6 x1 x2 x3 x4) := by subst hW; exact read_putAt harg11 _ _ _ _
    rw [← hr, View.read_writes_full]; rfl
  iexists _; isplitr; swap; · iexact HS
  ipureintro
  sl_unfold_words; rw [read_whole harg7, read_whole harg8, read_whole harg3, read_whole harg4, read_whole harg5, read_whole harg6]; exact read_putAt harg11 _ _ _ _

end Cert.Kernel.Gate

end
-- ==== Proof.BitsGateBody.lean ====
module

public import proofs.«01_k».proof.Proof.BitsGateDat
public import proofs.«01_k».proof.Proof.BitsGateRunA
public import proofs.«01_k».proof.Proof.BitsGateRunB
public import proofs.«01_k».proof.Proof.BitsGateRunC

@[expose] public section

set_option maxRecDepth 16384

noncomputable section

namespace Cert.Kernel.Gate

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at every point of the gate/up pipeline -/

/-- What the body is called with at point `t`, -/
def bodyPre (c : Dev nD) (t : Fin cfg0.N) : sProp 𝕄 :=
  iprop((gdat V c).Φ t.castSucc ∗ (gdat V c).owesAt () t.castSucc
    ∗ (∃ d, owns (c : Thread nD τ) (st0_0 t) fullShare ((gdat V c).before 0 t d))
    ∗ (∃ d, owns (c : Thread nD τ) (st0_1 t) fullShare ((gdat V c).before 1 t d))
    ∗ (∃ d, owns (c : Thread nD τ) (st0_2 t) fullShare ((gdat V c).before 2 t d))
    ∗ (∃ d, owns (c : Thread nD τ) (st0_3 t) fullShare ((gdat V c).before 3 t d))
    ∗ (∃ d, owns (c : Thread nD τ) (st0_4 t) fullShare ((gdat V c).before 4 t d))
    ∗ (∃ d, owns (c : Thread nD τ) (st0_5 t) fullShare ((gdat V c).before 5 t d))
    ∗ (∃ d, owns (c : Thread nD τ) (st0_6 t) fullShare ((gdat V c).before 6 t d))
    ∗ (∃ d, owns (c : Thread nD τ) (st0_7 t) fullShare ((gdat V c).before 7 t d))
    ∗ (∃ d, owns (c : Thread nD τ) (st0_8 t) fullShare ((gdat V c).before 8 t d)))

/-- and what it returns. -/
def bodyPost (c : Dev nD) (t : Fin cfg0.N) : sProp 𝕄 :=
  iprop((gdat V c).Φ t.succ ∗ (gdat V c).owesAt () t.succ
    ∗ (gdat V c).leavesExact 0 t
    ∗ (gdat V c).leavesExact 1 t
    ∗ (gdat V c).leavesExact 2 t
    ∗ (gdat V c).leavesExact 3 t
    ∗ (gdat V c).leavesExact 4 t
    ∗ (gdat V c).leavesExact 5 t
    ∗ (gdat V c).leavesExact 6 t
    ∗ (gdat V c).leavesExact 7 t
    ∗ (gdat V c).leavesExact 8 t)

/-- Where the body writes a window, or the window is written back, its buffer is left at the proof data's contents. -/
theorem leaves_live (c : Dev nD) (w : Fin cfg0.W) (t : Fin cfg0.N) (h : cfg0.idle w (cfg0.grid.coords t) = false) :
    (gdat V c).leavesExact w t = owns (c : Thread nD τ) ((cfg0.win w).stage (cfg0.slots t w)) fullShare ((gdat V c).after w t) := by
  unfold Dat.leavesExact; rw [h]

theorem leaves_flush (c : Dev nD) (w : Fin cfg0.W) (t : Fin cfg0.N) (h : cfg0.idle w (cfg0.grid.coords t) = true) (hf : (cfg0.win w).flush t = true) :
    (gdat V c).leavesExact w t = owns (c : Thread nD τ) ((cfg0.win w).stage (cfg0.slots t w)) fullShare ((gdat V c).after w t) := by
  unfold Dat.leavesExact; rw [h, hf]

theorem leaves_idle (c : Dev nD) (w : Fin cfg0.W) (t : Fin cfg0.N) (h : cfg0.idle w (cfg0.grid.coords t) = true) (hf : (cfg0.win w).flush t = false) :
    (gdat V c).leavesExact w t = iprop(∃ d, owns (c : Thread nD τ) ((cfg0.win w).stage (cfg0.slots t w)) fullShare ((gdat V c).before w t d)) := by
  unfold Dat.leavesExact; rw [h, hf]

set_option maxHeartbeats 2400000 in
/-- The body at point `t` turns the one into the other: the three cases are the first, the last and the other points of
    a row block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (gdat V c).owesAt () t.succ = (gdat V c).owesAt () t.castSucc from rfl,
    show (gdat V c).Φ t.castSucc = PhiK V c t.val from rfl, show (gdat V c).Φ t.succ = PhiK V c (t.val + 1) from rfl,
    leaves_live V c 0 t rfl, leaves_live V c 1 t rfl, leaves_live V c 2 t rfl, leaves_live V c 3 t rfl, leaves_live V c 4 t rfl,
    after_0, after_1, after_2, after_3, after_4]
  unfold PhiK
  have hN : t.val < 36 := lt36 t
  by_cases h0 : t.val % 9 = 0
  · have h1 : t.val % 9 ≠ 8 := by omega
    rw [leaves_live V c 5 t (live_5 t h0), leaves_live V c 6 t (live_5 t h0), leaves_idle V c 7 t (idle_7 t h1) (Bool.eq_false_iff.mpr fun e => h1 ((flush0_7 t).mp e)), leaves_idle V c 8 t (idle_7 t h1) (Bool.eq_false_iff.mpr fun e => h1 ((flush0_8 t).mp e)), after_5, after_6]
    iintro ⟨⟨⟨%D, %hD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hK := kept_succ V c t D hD
    iapply (runA c (grid0.coords t) _ _ _ _ _ _ _ _ _ _ _ _ _ _ _ _ _ _ _ _ ((cond1_iff t).mpr h0) (fun h => h1 ((cond2_iff t).mp h)) (iblk V c 0 t) (iblk V c 1 t) (iblk V c 2 t) (iblk V c 3 t) (iblk V c 4 t) ((gdat V c).before 5 t d5) ((gdat V c).before 6 t d6) ((gdat V c).before 7 t d7) ((gdat V c).before 8 t d8) D Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · isplitl [HS]
      · iexists _; isplitr; swap; · iexact HS
        ipureintro; exact hK
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · by_cases h1 : t.val % 9 = 8
    · rw [leaves_flush V c 5 t (idle_5 t h0) ((flush0_5 t).mpr h1), leaves_flush V c 6 t (idle_5 t h0) ((flush0_6 t).mpr h1), leaves_live V c 7 t (live_7 t h1), leaves_live V c 8 t (live_7 t h1), after_5, after_6, after_7, after_8]
      iintro ⟨⟨⟨%D, %hD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have hK := kept_succ V c t D hD
      have e5 : (gdat V c).before 5 t d5 = xcOf (iblk V c 0 t) := before_5 V c d5 t.val t.isLt h0
      have e6 : (gdat V c).before 6 t d6 = xsOf (iblk V c 0 t) := before_6 V c d6 t.val t.isLt h0
      rw [e5, e6]
      iapply (runC c (grid0.coords t) _ _ _ _ _ _ _ _ _ _ _ _ _ _ _ _ _ _ _ _ (fun h => h0 ((cond1_iff t).mp h)) ((cond2_iff t).mpr h1) (iblk V c 0 t) (iblk V c 1 t) (iblk V c 2 t) (iblk V c 3 t) (iblk V c 4 t) (xcOf (iblk V c 0 t)) (xsOf (iblk V c 0 t)) ((gdat V c).before 7 t d7) ((gdat V c).before 8 t d8) D Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]
        · iexists _; isplitr; swap; · iexact HS
          ipureintro; exact hK
        iexact Hg
      isplitl [Ho]; · iexact Ho
      isplitl [H0]; · iexact H0
      isplitl [H1]; · iexact H1
      isplitl [H2]; · iexact H2
      isplitl [H3]; · iexact H3
      isplitl [H4]; · iexact H4
      rw [← kept_full V c t h1 _ hK]
      isplitl [H5]; · iexact H5
      isplitl [H6]; · iexact H6
      isplitl [H7]; · iexact H7
      iexact H8
    · rw [leaves_idle V c 5 t (idle_5 t h0) (Bool.eq_false_iff.mpr fun e => h1 ((flush0_5 t).mp e)), leaves_idle V c 6 t (idle_5 t h0) (Bool.eq_false_iff.mpr fun e => h1 ((flush0_6 t).mp e)), leaves_idle V c 7 t (idle_7 t h1) (Bool.eq_false_iff.mpr fun e => h1 ((flush0_7 t).mp e)), leaves_idle V c 8 t (idle_7 t h1) (Bool.eq_false_iff.mpr fun e => h1 ((flush0_8 t).mp e))]
      iintro ⟨⟨⟨%D, %hD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have hK := kept_succ V c t D hD
      have e5 : (gdat V c).before 5 t d5 = xcOf (iblk V c 0 t) := before_5 V c d5 t.val t.isLt h0
      have e6 : (gdat V c).before 6 t d6 = xsOf (iblk V c 0 t) := before_6 V c d6 t.val t.isLt h0
      iapply (runB c (grid0.coords t) _ _ _ _ _ _ _ _ _ _ _ _ _ _ _ _ _ _ _ _ (fun h => h0 ((cond1_iff t).mp h)) (fun h => h1 ((cond2_iff t).mp h)) (iblk V c 0 t) (iblk V c 1 t) (iblk V c 2 t) (iblk V c 3 t) (iblk V c 4 t) ((gdat V c).before 5 t d5) ((gdat V c).before 6 t d6) ((gdat V c).before 7 t d7) ((gdat V c).before 8 t d8) D Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      rw [e5, e6]
      isplitl [HS Hg]
      · isplitl [HS]
        · iexists _; isplitr; swap; · iexact HS
          ipureintro; exact hK
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; rw [e5]; iexact H5
      isplitl [H6]; · iexists d6; rw [e6]; iexact H6
      isplitl [H7]; · iexists _; iexact H7
      iexists _; iexact H8

theorem defs₀_row (t : Fin cfg0.N) : defs₀ (F := F) .tc cfg0.body (cfg0.bodyArgs t (cfg0.slots t)) = bodyAt0 t := by
  unfold defs₀; rw [Defs.onTc_tc]

/-- The body obligation of the gate/up pipeline. -/
theorem body_obligation (c : Dev nD) : BodyObligation (gdat V c) defs₀ Variants.none () Set.univ := fun t => by
  rw [bigSep_W0, bigSep_W0, defs₀_row]
  exact triple_restated (sound_body V c t) rfl .rfl fun _ => .rfl

end Cert.Kernel.Gate

end
-- ==== Proof.BitsDownDat.lean ====
module

public import proofs.«01_k».proof.Proof.Gen.Kernel.Launch
public import proofs.«01_k».proof.Proof.Gen.Kernel.Points
public import proofs.«01_k».proof.Proof.BitsGateNames

@[expose] public section

set_option maxRecDepth 16384

noncomputable section

namespace Cert.Kernel.Down

open Cert.Kernel.Gen
open Cert.Kernel.Gate (read_whole)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the down projection's pipeline

`V` is what every buffer holds when the pipeline is entered.  Every point reads its four blocks and writes one block of
the result. -/

set_option maxHeartbeats 1000000 in
/-- The body: the result's block becomes the payload of the four blocks read. -/
theorem run (c : Dev nD) (i : grid1.Coords) (arg2 : Memref sig .tc .vmem S1024x3456 .fp8e4m3) (harg2 : arg2.IsWhole) (arg3 : Memref sig .tc .vmem S1024x1 .f32) (harg3 : arg3.IsWhole) (arg4 : Memref sig .tc .vmem S512x3456 .fp8e4m3) (harg4 : arg4.IsWhole) (arg5 : Memref sig .tc .vmem S1x512 .f32) (harg5 : arg5.IsWhole) (arg6 : Memref sig .tc .vmem S1024x512 .bf16) (harg6 : arg6.IsWhole)
    (x0 : Vec F S1024x3456 .fp8e4m3) (x1 : Vec F S1024x1 .f32) (x2 : Vec F S512x3456 .fp8e4m3) (x3 : Vec F S1x512 .f32) (y4 : Vec F S1024x512 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay1 x0 x2 x1 x3)) -∗ K ⟨⟩))
      ⊢ wp frame (wpE (defs₀ (F := F)) Variants.none c none) E (cc1_down i arg2 harg2 arg3 harg3 arg4 harg4 arg5 harg5 arg6 harg6) K := by
  intro E K
  simp only [cc1_down_eq_skeleton]; unfold cc1_down_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0
  obtain rfl := harg3.eq_unread hf1
  obtain rfl := harg4.eq_unread hf2
  obtain rfl := harg5.eq_unread hf3
  obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H4
  ipureintro
  rw [read_whole harg2, read_whole harg3, read_whole harg4, read_whole harg5]
  exact View.read_writes_full _ _ _ _ _

variable (V : (c : Dev nD) → (b : Ref sig .tc) → Buf (Elt F) ((c : Thread nD τ).loc b))

/-- The part of window `w`'s array that point `t` works on. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pipeline's proof data. -/
def ddat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay1 (iblk V c 0 t) (iblk V c 2 t) (iblk V c 1 t) (iblk V c 3 t)
  Φ _ := Pipeline.scopedRest spec1 c
  q w := Pipeline.shareOf spec1 w
  owed _ := 0

theorem A_eq (c : Dev nD) (w : Fin cfg1.W) : (ddat V c).A w = V c (Pipeline.arrRef spec1 w) := by dsimp only [ddat]

theorem after_0 (c : Dev nD) (t : Fin cfg1.N) : (ddat V c).after 0 t = iblk V c 0 t := by dsimp only [ddat]
theorem after_1 (c : Dev nD) (t : Fin cfg1.N) : (ddat V c).after 1 t = iblk V c 1 t := by dsimp only [ddat]
theorem after_2 (c : Dev nD) (t : Fin cfg1.N) : (ddat V c).after 2 t = iblk V c 2 t := by dsimp only [ddat]
theorem after_3 (c : Dev nD) (t : Fin cfg1.N) : (ddat V c).after 3 t = iblk V c 3 t := by dsimp only [ddat]
theorem after_4 (c : Dev nD) (t : Fin cfg1.N) : (ddat V c).after 4 t = k1_pay1 (iblk V c 0 t) (iblk V c 2 t) (iblk V c 1 t) (iblk V c 3 t) := by dsimp only [ddat]

theorem before_0 (c : Dev nD) (t : Fin cfg1.N) (d) : (ddat V c).before 0 t d = iblk V c 0 t :=
  ((ddat V c).before_in_eq_fetched 0 rfl (fun _ => rfl) (fun _ _ _ => rfl) (fun t => by rw [after_0]; unfold Dat.blockOf iblk; rw [A_eq]; try rfl) t d).trans (by unfold Dat.fetched Dat.blockOf iblk; rw [A_eq]; try rfl)
theorem before_1 (c : Dev nD) (t : Fin cfg1.N) (d) : (ddat V c).before 1 t d = iblk V c 1 t :=
  ((ddat V c).before_in_eq_fetched 1 rfl (fun _ => rfl) (fun _ _ _ => rfl) (fun t => by rw [after_1]; unfold Dat.blockOf iblk; rw [A_eq]; try rfl) t d).trans (by unfold Dat.fetched Dat.blockOf iblk; rw [A_eq]; try rfl)
theorem before_2 (c : Dev nD) (t : Fin cfg1.N) (d) : (ddat V c).before 2 t d = iblk V c 2 t :=
  ((ddat V c).before_in_eq_fetched 2 rfl (fun _ => rfl) (fun _ _ _ => rfl) (fun t => by rw [after_2]; unfold Dat.blockOf iblk; rw [A_eq]; try rfl) t d).trans (by unfold Dat.fetched Dat.blockOf iblk; rw [A_eq]; try rfl)
theorem before_3 (c : Dev nD) (t : Fin cfg1.N) (d) : (ddat V c).before 3 t d = iblk V c 3 t :=
  ((ddat V c).before_in_eq_fetched 3 rfl (fun _ => rfl) (fun _ _ _ => rfl) (fun t => by rw [after_3]; unfold Dat.blockOf iblk; rw [A_eq]; try rfl) t d).trans (by unfold Dat.fetched Dat.blockOf iblk; rw [A_eq]; try rfl)

/-- What the body is called with at point `t`, -/
def bodyPre (c : Dev nD) (t : Fin cfg1.N) : sProp 𝕄 :=
  iprop((ddat V c).Φ t.castSucc ∗ (ddat V c).owesAt () t.castSucc
    ∗ (∃ d, owns (c : Thread nD τ) (st1_0 t) fullShare ((ddat V c).before 0 t d))
    ∗ (∃ d, owns (c : Thread nD τ) (st1_1 t) fullShare ((ddat V c).before 1 t d))
    ∗ (∃ d, owns (c : Thread nD τ) (st1_2 t) fullShare ((ddat V c).before 2 t d))
    ∗ (∃ d, owns (c : Thread nD τ) (st1_3 t) fullShare ((ddat V c).before 3 t d))
    ∗ (∃ d, owns (c : Thread nD τ) (st1_4 t) fullShare ((ddat V c).before 4 t d)))

/-- and what it returns. -/
def bodyPost (c : Dev nD) (t : Fin cfg1.N) : sProp 𝕄 :=
  iprop((ddat V c).Φ t.succ ∗ (ddat V c).owesAt () t.succ
    ∗ (ddat V c).leavesExact 0 t
    ∗ (ddat V c).leavesExact 1 t
    ∗ (ddat V c).leavesExact 2 t
    ∗ (ddat V c).leavesExact 3 t
    ∗ (ddat V c).leavesExact 4 t)

theorem leaves_live (c : Dev nD) (w : Fin cfg1.W) (t : Fin cfg1.N) (h : cfg1.idle w (cfg1.grid.coords t) = false) :
    (ddat V c).leavesExact w t = owns (c : Thread nD τ) ((cfg1.win w).stage (cfg1.slots t w)) fullShare ((ddat V c).after w t) := by
  unfold Dat.leavesExact; rw [h]

/-- The body at point `t` turns the one into the other. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (ddat V c).owesAt () t.succ = (ddat V c).owesAt () t.castSucc from rfl,
    show (ddat V c).Φ t.succ = (ddat V c).Φ t.castSucc from rfl,
    leaves_live V c 0 t rfl, leaves_live V c 1 t rfl, leaves_live V c 2 t rfl, leaves_live V c 3 t rfl, leaves_live V c 4 t rfl,
    after_0, after_1, after_2, after_3, after_4]
  iintro ⟨HΦ, Ho, ⟨%d0, H0⟩, ⟨%d1, H1⟩, ⟨%d2, H2⟩, ⟨%d3, H3⟩, ⟨%d4, H4⟩⟩
  iapply (run c (grid1.coords t) _ _ _ _ _ _ _ _ _ _ (iblk V c 0 t) (iblk V c 1 t) (iblk V c 2 t) (iblk V c 3 t) ((ddat V c).before 4 t d4) Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg1.N) : defs₀ (F := F) .tc cfg1.body (cfg1.bodyArgs t (cfg1.slots t)) = bodyAt1 t := by
  unfold defs₀; rw [Defs.onTc_tc]

/-- The body obligation of the down projection's pipeline. -/
theorem body_obligation (c : Dev nD) : BodyObligation (ddat V c) defs₀ Variants.none () Set.univ := fun t => by
  rw [bigSep_W1, bigSep_W1, defs₀_row]
  exact triple_restated (sound_body V c t) rfl .rfl fun _ => .rfl

end Cert.Kernel.Down

end
-- ==== Proof.BitsRun.lean ====
module

public import proofs.«01_k».proof.Proof.Gen.Kernel.Regions
public import Idealize.ShloMosaic.Lib.Pipeline.RegionsLoop
public import proofs.«01_k».proof.Proof.BitsGateBody
public import proofs.«01_k».proof.Proof.BitsDownDat

@[expose] public section

set_option maxRecDepth 16384

noncomputable section

namespace Cert.Kernel.Run

open Cert.Kernel.Gen
open Cert.Kernel.Gate (gdat)
open Cert.Kernel.Down (ddat)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program's run, naming what every buffer holds at the end

Host reshapes, the gate/up pipeline, one more host reshape, the down projection's pipeline. -/

/-- What the gate/up pipeline finds. -/
abbrev Va (c : Dev nD) (b : Ref sig .tc) : Buf (Elt F) ((c : Thread nD τ).loc b) := V1 m c b

/-- What each core's buffers hold after the gate/up pipeline. -/
def W2 (c : Dev nD) : Valuation τ sig (Elt F) :=
  Function.update (Function.update (Function.update (Function.update (V1 m c) main_v3_0 ((gdat (Va m) c).arrAt 5 cfg0.N))
    main_v3_1 ((gdat (Va m) c).arrAt 6 cfg0.N)) main_v3_2 ((gdat (Va m) c).arrAt 7 cfg0.N)) main_v3_3 ((gdat (Va m) c).arrAt 8 cfg0.N)

/-- What the down projection's pipeline finds. -/
def Vb (c : Dev nD) (b : Ref sig .tc) : Buf (Elt F) ((c : Thread nD τ).loc b) := StableHlo.after hostOps1 (W2 m c) b

/-- What the two pipelines leave in the arrays they write. -/
def outs : Outs (F := F) := fun J r c =>
  if J = 2 then W2 m c r else Function.update (StableHlo.after hostOps1 (W2 m c)) (main_v5 : DevRef τ sig) ((ddat (Vb m) c).arrAt 4 cfg1.N) r

theorem ne_of (r s : Ref sig .tc) (h : r ≠ s) : (Proc.devRef .tc r : DevRef τ sig) ≠ Proc.devRef .tc s := StableHlo.devRef_ne_of_ne h

theorem W2_0 (c : Dev nD) : W2 m c main_v3_0 = (gdat (Va m) c).arrAt 5 cfg0.N := by
  unfold W2
  rw [Function.update_of_ne (ne_of _ _ (by decide)), Function.update_of_ne (ne_of _ _ (by decide)), Function.update_of_ne (ne_of _ _ (by decide)), Function.update_self]
theorem W2_1 (c : Dev nD) : W2 m c main_v3_1 = (gdat (Va m) c).arrAt 6 cfg0.N := by
  unfold W2
  rw [Function.update_of_ne (ne_of _ _ (by decide)), Function.update_of_ne (ne_of _ _ (by decide)), Function.update_self]
theorem W2_2 (c : Dev nD) : W2 m c main_v3_2 = (gdat (Va m) c).arrAt 7 cfg0.N := by
  unfold W2
  rw [Function.update_of_ne (ne_of _ _ (by decide)), Function.update_self]
theorem W2_3 (c : Dev nD) : W2 m c main_v3_3 = (gdat (Va m) c).arrAt 8 cfg0.N := by
  unfold W2
  rw [Function.update_self]

theorem outs_v3 (r : Ref sig .tc) (c : Dev nD) : outs m 2 r c = W2 m c r := by unfold outs; rw [if_pos rfl]
theorem outs_v5 (c : Dev nD) : outs m 4 main_v5 c = (ddat (Vb m) c).arrAt 4 cfg1.N := by
  unfold outs; rw [if_neg (by decide), Function.update_self]

theorem V2_eq (c : Dev nD) : V2 m (outs m) c = W2 m c := by
  show Function.update (Function.update (Function.update (Function.update (V1 m c) main_v3_0 (outs m 2 main_v3_0 c)) main_v3_1 (outs m 2 main_v3_1 c)) main_v3_2 (outs m 2 main_v3_2 c)) main_v3_3 (outs m 2 main_v3_3 c) = W2 m c
  rw [outs_v3, outs_v3, outs_v3, outs_v3, W2_0, W2_1, W2_2, W2_3]; rfl

theorem V3_eq (c : Dev nD) (b : Ref sig .tc) : V3 m (outs m) c b = Vb m c b := by
  show StableHlo.after hostOps1 (V2 m (outs m) c) b = _
  rw [V2_eq]; rfl

/-- Both pipelines' proof data. -/
def dats : (p : Fin 2) → (c : Dev nD) → Dat τ (Elt F) Unit ℕ (UR sig nD τ) ℕ (cfgs p) c
  | 0 => gdat (Va m)
  | 1 => ddat (Vb m)

/-- What rides along: the core owes nothing. -/
def R (c : Dev nD) : sProp 𝕄 := iprop(∃ W, owes (c : Thread nD τ) (0 : CellTallies nD τ sig Unit) W)

def L : GSem nD τ sig → Finset Unit := fun _ => ∅
def lv : GSem nD τ sig → Unit → ℕ := fun _ _ => 0

theorem hF0 (c : Dev nD) : ∀ w : Fin 9, (gdat (Va m) c).arrAt w cfg0.N = V2 m (outs m) c (Pipeline.arrRef spec0 w)
  | 0 => ((gdat (Va m) c).arrAt_in 0 rfl _).trans ((Gate.A_eq (Va m) c 0).trans (V2_of m (outs m) c main_v2 (by decide)).symm)
  | 1 => ((gdat (Va m) c).arrAt_in 1 rfl _).trans ((Gate.A_eq (Va m) c 1).trans (V2_of m (outs m) c main_v0 (by decide)).symm)
  | 2 => ((gdat (Va m) c).arrAt_in 2 rfl _).trans ((Gate.A_eq (Va m) c 2).trans (V2_of m (outs m) c main_v0 (by decide)).symm)
  | 3 => ((gdat (Va m) c).arrAt_in 3 rfl _).trans ((Gate.A_eq (Va m) c 3).trans (V2_of m (outs m) c main_v1 (by decide)).symm)
  | 4 => ((gdat (Va m) c).arrAt_in 4 rfl _).trans ((Gate.A_eq (Va m) c 4).trans (V2_of m (outs m) c main_v1 (by decide)).symm)
  | 5 => by rw [V2_eq]; exact (W2_0 m c).symm
  | 6 => by rw [V2_eq]; exact (W2_1 m c).symm
  | 7 => by rw [V2_eq]; exact (W2_2 m c).symm
  | 8 => by rw [V2_eq]; exact (W2_3 m c).symm

theorem hF1 (c : Dev nD) : ∀ w : Fin 5, (ddat (Vb m) c).arrAt w cfg1.N = V4 m (outs m) c (Pipeline.arrRef spec1 w)
  | 0 => ((ddat (Vb m) c).arrAt_in 0 rfl _).trans ((Down.A_eq (Vb m) c 0).trans ((V4_of m (outs m) c main_v3_2 (by decide)).trans (V3_eq m c _)).symm)
  | 1 => ((ddat (Vb m) c).arrAt_in 1 rfl _).trans ((Down.A_eq (Vb m) c 1).trans ((V4_of m (outs m) c main_v3_3 (by decide)).trans (V3_eq m c _)).symm)
  | 2 => ((ddat (Vb m) c).arrAt_in 2 rfl _).trans ((Down.A_eq (Vb m) c 2).trans ((V4_of m (outs m) c main_arg3 (by decide)).trans (V3_eq m c _)).symm)
  | 3 => ((ddat (Vb m) c).arrAt_in 3 rfl _).trans ((Down.A_eq (Vb m) c 3).trans ((V4_of m (outs m) c main_v4 (by decide)).trans (V3_eq m c _)).symm)
  | 4 => by
    show _ = Function.update (V3 m (outs m) c) main_v5 (outs m 4 main_v5 c) main_v5
    rw [Function.update_self, outs_v5]

theorem hrest0 (c : Dev nD) (b : Ref sig .tc) (hb : b ∉ Finset.univ.image (Pipeline.arrRef spec0)) : V2 m (outs m) c b = Va m c b :=
  V2_of m (outs m) c b fun h => hb ((by decide : ∀ r ∈ ([main_v3_0, main_v3_1, main_v3_2, main_v3_3] : List (Ref sig .tc)), r ∈ Finset.univ.image (Pipeline.arrRef spec0)) b h)

theorem hrest1 (c : Dev nD) (b : Ref sig .tc) (hb : b ∉ Finset.univ.image (Pipeline.arrRef spec1)) : V4 m (outs m) c b = Vb m c b :=
  (V4_of m (outs m) c b fun h => hb ((by decide : ∀ r ∈ ([main_v5] : List (Ref sig .tc)), r ∈ Finset.univ.image (Pipeline.arrRef spec1)) b h)).trans (V3_eq m c b)

theorem sharedIn1 : Pipeline.SharedIn spec1 := by decide

/-- The gate/up pipeline, from the buffers as the first host stretch leaves them to the results in place. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (Gate.body_obligation (Va m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X _ := BI.emp
  Y _ := BI.emp
  Z c := Pipeline.unscopedRest spec0 c (Va m c)
  hentry c := by
    rw [← Pipeline.unscopedBufs_held c (V1 m c)]
    have hsplit := Pipeline.arrays_of_unscopedBufs_shared (pcfgs (F := F)) adm (dats m) (p := 0) winFacts₀0 sharedIn0 arr_whole0 c
      (fun _ _ => rfl) (Va m c) (Gate.A_eq (Va m) c)
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold R Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = Gate.PhiK (Va m) c 0 from rfl, show Pipeline.scopedRest (Pipeline.pin pcfgs adm 0).spec c = Pipeline.scopedRest spec0 c from rfl, scopedRest0_eq]
    unfold Gate.PhiK Gate.others
    simp only [owns_whole]
    iintro ⟨-, -, ⟨%f, Hs⟩, Hr⟩
    isplitl [Hs]
    · iexists f
      isplitr; · ipureintro; exact Gate.kept_zero (Va m) c f
      iexact Hs
    iexact Hr
  hout c := by
    rw [Pipeline.ownSems0_none, show (dats m 0 c).Φ (Fin.last (Pipeline.pin pcfgs adm 0).N) = Gate.PhiK (Va m) c cfg0.N from rfl, show Pipeline.scopedRest (Pipeline.pin pcfgs adm 0).spec c = Pipeline.scopedRest spec0 c from rfl, scopedRest0_eq]
    unfold Gate.PhiK Gate.others
    simp only [owns_whole]
    iintro ⟨⟨%D, -, Hs⟩, Hr⟩
    isplitr; · iempintro
    isplitr; · iempintro
    isplitl [Hs]
    · iexists D
      iexact Hs
    iexact Hr
  hexit c := by
    rw [← Pipeline.unscopedBufs_held c (V2 m (outs m) c)]
    have hjoin := Pipeline.unscopedBufs_of_arrays_shared (pcfgs (F := F)) adm (p := 0) winFacts₀0 sharedIn0 arr_whole0 c (dats m)
      (fun _ _ => rfl) (Va m c) (fun b => V2 m (outs m) c b) _ (hF0 m c) (hrest0 m c)
    iintro ⟨Ha, HO, -, Hz⟩
    imodintro
    isplitr [HO]
    · iapply hjoin
      isplitl [Ha]; · iexact Ha
      iexact Hz
    · unfold R Pipeline.Dat.owesAt Pipeline.owesWithin
      icases HO with ⟨%W, -, HO⟩; iexists W; iexact HO

/-- The down projection's pipeline likewise. -/
def reg1 : RegionSeg (pcfgs (F := F)) adm (dats m) () defs₀ Variants.none L lv 1 where
  win := launch1.win.to₀
  block_pos := launch1.block_pos
  stage_whole := launch1.stage_whole
  K := PEmpty
  osem := fun k => k.elim
  ho := Pipeline.OwnSemFacts.none _
  hbody c := (Down.body_obligation (Vb m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X _ := BI.emp
  Y _ := BI.emp
  Z c := Pipeline.unscopedRest spec1 c (Vb m c)
  hentry c := by
    rw [← Pipeline.unscopedBufs_held c (V3 m (outs m) c), show (fun b => V3 m (outs m) c (Proc.devRef .tc b)) = Vb m c from funext fun b => V3_eq m c b]
    have hsplit := Pipeline.arrays_of_unscopedBufs_shared (pcfgs (F := F)) adm (dats m) (p := 1) launch1.win.to₀ sharedIn1 launch1.arr_whole c
      (fun _ _ => rfl) (Vb m c) (Down.A_eq (Vb m) c)
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold R Pipeline.Dat.owesAt Pipeline.owesWithin
      icases HO with ⟨%W, HO⟩; iexists W; isplitr; · ipureintro; exact fun _ _ => Or.inl trivial
      iexact HO
    isplitr; · iempintro
    iexact Hz
  hin c := by
    rw [show (dats m 1 c).Φ 0 = Pipeline.scopedRest spec1 c from rfl]
    iintro ⟨-, -, Hr⟩
    iexact Hr
  hout c := by
    rw [Pipeline.ownSems0_none, show (dats m 1 c).Φ (Fin.last (Pipeline.pin pcfgs adm 1).N) = Pipeline.scopedRest spec1 c from rfl]
    iintro Hr
    isplitr; · iempintro
    isplitr; · iempintro
    iexact Hr
  hexit c := by
    rw [← Pipeline.unscopedBufs_held c (V4 m (outs m) c)]
    have hjoin := Pipeline.unscopedBufs_of_arrays_shared (pcfgs (F := F)) adm (p := 1) launch1.win.to₀ sharedIn1 launch1.arr_whole c (dats m)
      (fun _ _ => rfl) (Vb m c) (fun b => V4 m (outs m) c b) _ (hF1 m c) (hrest1 m c)
    iintro ⟨Ha, HO, -, Hz⟩
    imodintro
    isplitr [HO]
    · iapply hjoin
      isplitl [Ha]; · iexact Ha
      iexact Hz
    · unfold R Pipeline.Dat.owesAt Pipeline.owesWithin
      icases HO with ⟨%W, -, HO⟩; iexists W; iexact HO

/-- What is claimed of core `c`'s memory at the end: the arguments as launched, the five results as the two pipelines
    leave them. -/
def Ends (c : Dev nD) (s : MemSt nD τ sig (Elt F)) : Prop :=
  ∀ b : Ref sig .tc, b.isScoped = false → s.mem ((c.tc : Thread nD τ).loc b) = V4 m (outs m) c b

set_option backward.isDefEq.respectTransparency.types false in
/-- Every fair run from memory `m` with zero counters ends, with every unscoped buffer at the last valuation and every
    counter at zero. -/
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (dats m) () cellOf_inj emb₁ defs₀ Variants.none L lv m ρ main
    (segs m (outs m) Variants.none L lv (fun _ => R) () (dats m) (reg0 m) (reg1 m))
    (fun c Q => by
      rewrite [main_chain c, Seg.run_eq_chain,
        show (segs m (outs m) Variants.none L lv (fun _ => R) () (dats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V4 m (outs m) c))
    (hch := fun c => ⟨.rfl, .rfl, .rfl, .rfl, .rfl⟩)
    (hinit := ?_) (QY := Ends m)
    (hfin := fun c s' => ?_) (hQ := fun _ h hz => ⟨h, funext fun g => hz g (.inr (regions_no_unscoped g.2))⟩)
  · rw [ownU_emb₁, BI.bigSep_emp_const]
    iintro H
    imodintro
    isplitl [H]; · iexact H
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    unfold R
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, show ¬ b.isScoped = true by simp [hb]⟩)
    · iexact HSI

/-- The frame: every fair run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c main_arg0 rfl).trans (V4_main_arg0 m (outs m) c), (h.1 c main_arg1 rfl).trans (V4_main_arg1 m (outs m) c),
    (h.1 c main_arg2 rfl).trans (V4_main_arg2 m (outs m) c), (h.1 c main_arg3 rfl).trans (V4_main_arg3 m (outs m) c),
    (h.1 c main_arg4 rfl).trans (V4_main_arg4 m (outs m) c)⟩, h.2⟩) (run_main m ρ)

end Cert.Kernel.Run

end
-- ==== Proof.ScaleFold.lean ====
/- Two folds over the 256 exponent fields, computed for each of the 253 fields a quotient under 2^126 can have. -/
module

public import Idealize.ShloMosaic.Lib.Pointwise

@[expose] public section

set_option maxRecDepth 16384

noncomputable section

namespace Cert.Scale

open Idealize.ShloMosaic

/-- The greatest of the fields up to `n`. -/
theorem fold_field : ∀ n : Fin 253, (Finset.univ.fold IntOp.maxsi 2147483648#32 fun k : Fin 256 => if n.val < k.val then 0#32 else BitVec.ofNat 32 k.val)
    = BitVec.ofNat 32 n.val := by decide +kernel

/-- The least of the exponents whose power exceeds a quotient of field `n`. -/
theorem fold_least : ∀ n : Fin 253, 1 ≤ n.val → (Finset.univ.fold IntOp.minsi 2147483647#32 fun k : Fin 256 =>
    if n.val ≤ k.val + 1 then IntOp.subi (BitVec.ofNat 32 k.val) 125#32 else 128#32) = IntOp.subi (BitVec.ofNat 32 n.val) 126#32 := by decide +kernel

end Cert.Scale

end
-- ==== Proof.Scale.lean ====
/- The power-of-two scale of a row, read two ways over the extended reals. For a quotient q with 0 ≤ q < 2^126 the
   exponent taken from the float's exponent field and the least exponent whose power exceeds q are one number, so the
   scales and their inverses are the same powers of two. -/
module

public import Idealize.ShloMosaic.Lib.Pointwise
public import proofs.«01_k».proof.Proof.ScaleFold

@[expose] public section

set_option maxRecDepth 16384

noncomputable section

namespace Cert.Scale

open Idealize.ShloMosaic

/-- The float32 word with exponent field `k`, clear sign and clear fraction. -/
abbrev word (k : BitVec 32) : BitVec 32 := IntOp.shli .vector k 23#32

/-- The greatest field whose power of two is at most `q`. -/
def field (q : EReal) : BitVec 32 :=
  Finset.univ.fold IntOp.maxsi 2147483648#32 fun k : Fin 256 => if q < Ideal.ofBits .f32 (word (BitVec.ofNat 32 k)) then 0#32 else BitVec.ofNat 32 k

/-- The kernel's exponent: zero at field zero, else the field less 126. -/
def kexp (q : EReal) : BitVec 32 := if field q = 0#32 then 0#32 else IntOp.subi (field q) 126#32

/-- The kernel's scale and inverse scale: the floats of exponent field `127 ± kexp`. -/
def kscale (q : EReal) : EReal := Ideal.ofBits .f32 (word (IntOp.addi (kexp q) 127#32))
def kinv (q : EReal) : EReal := Ideal.ofBits .f32 (word (IntOp.addi (IntOp.subi 0#32 (kexp q)) 127#32))

/-- The least of the exponents -125 … 130 (128 where there is none) whose power of two exceeds `q`. -/
def least (q : EReal) : BitVec 32 :=
  Finset.univ.fold IntOp.minsi 2147483647#32 fun k : Fin 256 =>
    if q < Ideal.exp2 (((IntOp.subi (BitVec.ofNat 32 k) 125#32).toInt : ℝ) : EReal) then IntOp.subi (BitVec.ofNat 32 k) 125#32 else 128#32

/-- The reference's exponent, scale and inverse scale. -/
def rexp (q : EReal) : EReal := (((if q < Ideal.ofBits .f32 0x00800000#32 then 0#32 else least q).toInt : ℝ) : EReal)
def rscale (q : EReal) : EReal := Ideal.exp2 (rexp q)
def rinv (q : EReal) : EReal := Ideal.exp2 (0 - rexp q)

/-! ## The words -/

theorem word_fields : ∀ k : Fin 256, ((word (BitVec.ofNat 32 k.val)).extractLsb' 31 1 == 1#1) = false
    ∧ ((word (BitVec.ofNat 32 k.val)).extractLsb' 23 8).toNat = k.val ∧ ((word (BitVec.ofNat 32 k.val)).extractLsb' 0 23).toNat = 0 := by
  decide +kernel

theorem word_val (k : Fin 256) (h1 : 1 ≤ k.val) (h2 : k.val ≤ 254) :
    Ideal.ofBits .f32 (word (BitVec.ofNat 32 k)) = (((2 : ℝ) ^ ((k.val : ℤ) - 127) : ℝ) : EReal) := by
  obtain ⟨a, b, c⟩ := word_fields k
  show Ideal.ieee 8 23 _ = _
  unfold Ideal.ieee
  dsimp only
  rw [show (8 + 23 : ℕ) = 31 from rfl, a, b, c, if_neg (by omega), if_neg (by omega)]
  refine congrArg (fun z : ℝ => (z : EReal)) ?_
  rw [show ((k.val : ℤ) - 127) = 23 + ((k.val : ℤ) - (2 ^ (8 - 1) - 1) - ((23 : ℕ) : ℤ)) by norm_num, zpow_add₀ two_ne_zero]
  norm_num

theorem word_zero : Ideal.ofBits .f32 (word (BitVec.ofNat 32 0)) = 0 := by
  obtain ⟨a, b, c⟩ := word_fields 0
  show Ideal.ieee 8 23 (word (BitVec.ofNat 32 (0 : Fin 256).val)) = _
  unfold Ideal.ieee
  dsimp only
  rw [show (8 + 23 : ℕ) = 31 from rfl, a, b, c]
  simp

theorem word_top : Ideal.ofBits .f32 (word (BitVec.ofNat 32 255)) = ⊤ := by
  obtain ⟨a, b, c⟩ := word_fields 255
  show Ideal.ieee 8 23 (word (BitVec.ofNat 32 (255 : Fin 256).val)) = _
  unfold Ideal.ieee
  dsimp only
  rw [show (8 + 23 : ℕ) = 31 from rfl, a, b, c]
  simp

theorem zpow_le {a b : ℤ} (h : a ≤ b) : (2 : ℝ) ^ a ≤ (2 : ℝ) ^ b := zpow_le_zpow_right₀ one_le_two h
theorem of_zpow_lt {a b : ℤ} (h : (2 : ℝ) ^ a < (2 : ℝ) ^ b) : a < b := (zpow_lt_zpow_iff_right₀ one_lt_two).mp h

/-- `n` is the exponent field of `q`: `q` is under the next power and, off zero, at least its own. -/
structure IsField (q : ℝ) (n : Fin 253) : Prop where
  nonneg : 0 ≤ q
  lt : q < (2 : ℝ) ^ ((n.val : ℤ) - 126)
  le : 1 ≤ n.val → (2 : ℝ) ^ ((n.val : ℤ) - 127) ≤ q

theorem exists_field (q : ℝ) (h0 : 0 ≤ q) (h1 : q < (2 : ℝ) ^ (126 : ℤ)) : ∃ n, IsField q n := by
  by_cases hs : q < (2 : ℝ) ^ (-126 : ℤ)
  · exact ⟨0, h0, by simpa using hs, fun h => absurd h (by decide)⟩
  · have hs' := not_lt.mp hs
    obtain ⟨n, hn, hn'⟩ := exists_mem_Ico_zpow (lt_of_lt_of_le (by positivity) hs') (one_lt_two (α := ℝ))
    have ha : -126 < n + 1 := of_zpow_lt (hs'.trans_lt hn')
    have hb : n < 126 := of_zpow_lt (hn.trans_lt h1)
    refine ⟨⟨(n + 127).toNat, by omega⟩, h0, ?_, fun _ => ?_⟩
    · rw [show (((⟨(n + 127).toNat, by omega⟩ : Fin 253).val : ℤ) - 126) = n + 1 by simp only; omega]; exact hn'
    · rw [show (((⟨(n + 127).toNat, by omega⟩ : Fin 253).val : ℤ) - 127) = n by simp only; omega]; exact hn

theorem lt_word {q : ℝ} {n : Fin 253} (h : IsField q n) (k : Fin 256) :
    ((q : EReal) < Ideal.ofBits .f32 (word (BitVec.ofNat 32 k))) ↔ n.val < k.val := by
  rcases Nat.eq_zero_or_pos k.val with h0 | h0
  · rw [h0, word_zero]
    simp only [not_lt_zero, iff_false, not_lt, EReal.coe_nonneg]
    exact h.nonneg
  · by_cases h255 : k.val = 255
    · rw [h255, word_top]
      exact ⟨fun _ => by omega, fun _ => EReal.coe_lt_top q⟩
    · rw [word_val k h0 (by omega), EReal.coe_lt_coe_iff]
      constructor
      · intro hq
        by_contra hc
        exact absurd (hq.trans_le ((zpow_le (by omega)).trans (h.le (by omega)))) (lt_irrefl _)
      · intro hk
        exact h.lt.trans_le (zpow_le (by omega))

theorem field_eq {q : ℝ} {n : Fin 253} (h : IsField q n) : field (q : EReal) = BitVec.ofNat 32 n.val := by
  unfold field
  simp only [lt_word h]
  exact fold_field n

/-! ## The reference's exponents -/

theorem sub_toInt : ∀ k : Fin 256, (IntOp.subi (BitVec.ofNat 32 k.val) 125#32).toInt = (k.val : ℤ) - 125 := by decide +kernel
theorem sub_toInt' : ∀ n : Fin 253, (IntOp.subi (BitVec.ofNat 32 n.val) 126#32).toInt = (n.val : ℤ) - 126 := by decide +kernel

theorem exp2_int (e : ℤ) : Ideal.exp2 (((e : ℤ) : ℝ) : EReal) = (((2 : ℝ) ^ e : ℝ) : EReal) := by
  show ((Real.rpow 2 (e : ℝ) : ℝ) : EReal) = _
  rw [← Real.rpow_intCast]; rfl

theorem lt_pow {q : ℝ} {n : Fin 253} (h : IsField q n) (hn : 1 ≤ n.val) (k : Fin 256) :
    ((q : EReal) < Ideal.exp2 (((IntOp.subi (BitVec.ofNat 32 k.val) 125#32).toInt : ℝ) : EReal)) ↔ n.val ≤ k.val + 1 := by
  rw [exp2_int, sub_toInt, EReal.coe_lt_coe_iff]
  constructor
  · intro hq
    have := of_zpow_lt ((h.le hn).trans_lt hq)
    omega
  · intro hk
    exact h.lt.trans_le (zpow_le (by omega))

theorem least_eq {q : ℝ} {n : Fin 253} (h : IsField q n) (hn : 1 ≤ n.val) : least (q : EReal) = IntOp.subi (BitVec.ofNat 32 n.val) 126#32 := by
  unfold least
  simp only [lt_pow h hn]
  exact fold_least n hn

/-- The exponent of a quotient with field `n`. -/
def expo (n : Fin 253) : ℤ := if n.val = 0 then 0 else (n.val : ℤ) - 126

theorem rexp_eq {q : ℝ} {n : Fin 253} (h : IsField q n) : rexp (q : EReal) = ((expo n : ℝ) : EReal) := by
  unfold rexp expo
  rw [show (0x00800000#32 : BitVec 32) = word (BitVec.ofNat 32 (1 : Fin 256).val) by decide]
  simp only [lt_word h]
  by_cases hn : n.val = 0
  · rw [if_pos (by show n.val < 1; omega), if_pos hn]; rfl
  · rw [if_neg (by show ¬ n.val < 1; omega), if_neg hn, least_eq h (by omega), sub_toInt']

/-! ## The kernel's exponents -/

theorem up_word : ∀ n : Fin 253, IntOp.addi (if BitVec.ofNat 32 n.val = 0#32 then 0#32 else IntOp.subi (BitVec.ofNat 32 n.val) 126#32) 127#32
    = BitVec.ofNat 32 (if n.val = 0 then 127 else n.val + 1) := by decide +kernel
theorem down_word : ∀ n : Fin 253, IntOp.addi (IntOp.subi 0#32 (if BitVec.ofNat 32 n.val = 0#32 then 0#32 else IntOp.subi (BitVec.ofNat 32 n.val) 126#32)) 127#32
    = BitVec.ofNat 32 (if n.val = 0 then 127 else 253 - n.val) := by decide +kernel

theorem kscale_eq {q : ℝ} {n : Fin 253} (h : IsField q n) : kscale (q : EReal) = (((2 : ℝ) ^ expo n : ℝ) : EReal) := by
  unfold kscale kexp
  rw [field_eq h, up_word]
  refine (word_val ⟨if n.val = 0 then 127 else n.val + 1, by split <;> omega⟩ (by dsimp only; split <;> omega) (by dsimp only; split <;> omega)).trans ?_
  unfold expo
  by_cases hn : n.val = 0
  · simp [hn]
  · simp only [if_neg hn]; congr 2; push_cast; ring

theorem kinv_eq {q : ℝ} {n : Fin 253} (h : IsField q n) : kinv (q : EReal) = (((2 : ℝ) ^ (-expo n) : ℝ) : EReal) := by
  unfold kinv kexp
  rw [field_eq h, down_word]
  refine (word_val ⟨if n.val = 0 then 127 else 253 - n.val, by split <;> omega⟩ (by dsimp only; split <;> omega) (by dsimp only; split <;> omega)).trans ?_
  unfold expo
  by_cases hn : n.val = 0
  · simp [hn]
  · simp only [if_neg hn]; congr 2; omega

/-- For a quotient in `[0, 2^126)` the two readings give the same power of two and the same inverse power. -/
theorem agree (q : ℝ) (h0 : 0 ≤ q) (h1 : q < (2 : ℝ) ^ (126 : ℤ)) :
    ∃ e : ℤ, kscale (q : EReal) = (((2 : ℝ) ^ e : ℝ) : EReal) ∧ rscale (q : EReal) = (((2 : ℝ) ^ e : ℝ) : EReal)
      ∧ kinv (q : EReal) = (((2 : ℝ) ^ (-e) : ℝ) : EReal) ∧ rinv (q : EReal) = (((2 : ℝ) ^ (-e) : ℝ) : EReal) := by
  obtain ⟨n, hn⟩ := exists_field q h0 h1
  refine ⟨expo n, kscale_eq hn, ?_, kinv_eq hn, ?_⟩
  · unfold rscale; rw [rexp_eq hn, exp2_int]
  · unfold rinv
    rw [rexp_eq hn, ← exp2_int, zero_sub, ← EReal.coe_neg]
    push_cast; rfl

end Cert.Scale

end
-- ==== Proof.Model.lean ====
/- One row of the MLP block over the extended reals, with the choice of the row's scale and of the factor that undoes it
   left open: the codes of a row, the gate and up projections, the activations, the down projection. -/
module

public import Idealize.ShloMosaic.Lib.Pointwise
public import Idealize.ShloMosaic.PureOps

@[expose] public section

noncomputable section

namespace Cert.Model

open Idealize.ShloMosaic

/-- The greatest magnitude of a row. -/
def amax {n : ℕ} (v : Fin n → EReal) : EReal := Finset.univ.fold max ⊥ fun k => max (v k) (-(v k))

/-- The quotient the scale is chosen from: the greatest magnitude times the float nearest 1/448. -/
def quo {n : ℕ} (v : Fin n → EReal) : EReal := amax v * Ideal.ofBits .f32 0x3B124925#32

/-- A number clipped to ±448. -/
def clip (y : EReal) : EReal := min (Ideal.ofBits .f32 0x43E00000#32) (max (Ideal.ofBits .f32 0xC3E00000#32) y)

variable (sc inv : EReal → EReal)

/-- The codes of a row. -/
def code {n : ℕ} (v : Fin n → EReal) (k : Fin n) : EReal := clip (v k * inv (quo v))

/-- One entry of the projection to the gate and up columns. -/
def gu (x : Fin 5120 → EReal) (w : Fin 6912 → Fin 5120 → EReal) (s : Fin 6912 → EReal) (j : Fin 6912) : EReal :=
  (∑ d, code inv x d * w j d) * sc (quo x) * s j

/-- Column `n` of the gate half, and of the up half. -/
def gate (n : Fin 3456) : Fin 6912 := ⟨n.val, by omega⟩
@[inherit_doc gate] def up (n : Fin 3456) : Fin 6912 := ⟨3456 + n.val, by omega⟩

/-- One activation. -/
def act (x : Fin 5120 → EReal) (w : Fin 6912 → Fin 5120 → EReal) (s : Fin 6912 → EReal) (n : Fin 3456) : EReal :=
  gu sc inv x w s (gate n) * Ideal.logistic (gu sc inv x w s (gate n)) * gu sc inv x w s (up n)

/-- One entry of the result, from a row of activations. -/
def down (h : Fin 3456 → EReal) (wd : Fin 5120 → Fin 3456 → EReal) (sd : Fin 5120 → EReal) (j : Fin 5120) : EReal :=
  (∑ n, code inv h n * wd j n) * sc (quo h) * sd j

/-- The rows of the arguments: row `r` of `x` with its two leading axes as one, the weight's codes as numbers. -/
def xs (a : (⟨3, ![2, 1024, 5120]⟩ : Shape).Idx → EReal) (r : Fin 2048) (d : Fin 5120) : EReal :=
  a (ix3 ⟨r.val / 1024, by omega⟩ ⟨r.val % 1024, by omega⟩ d)
@[inherit_doc xs] def ws (a : (⟨2, ![6912, 5120]⟩ : Shape).Idx → BitVec 8) (j : Fin 6912) (d : Fin 5120) : EReal :=
  Ideal.ofBits .fp8e4m3 (a (ix2 j d))
@[inherit_doc xs] def ss (a : (⟨1, ![6912]⟩ : Shape).Idx → EReal) (j : Fin 6912) : EReal := a (ix1 j)
@[inherit_doc xs] def wds (a : (⟨2, ![5120, 3456]⟩ : Shape).Idx → EReal) (j : Fin 5120) (n : Fin 3456) : EReal := a (ix2 j n)
@[inherit_doc xs] def sds (a : (⟨1, ![5120]⟩ : Shape).Idx → EReal) (j : Fin 5120) : EReal := a (ix1 j)

end Cert.Model

end
-- ==== Proof.Bound.lean ====
/- Bounds on the row functions of `Model`: a row of bounded numbers has a quotient at which the kernel's scale and the
   reference's are one power of two, and the activations of bounded arguments are bounded. -/
module

public import proofs.«01_k».proof.Proof.Scale
public import proofs.«01_k».proof.Proof.Model

@[expose] public section

noncomputable section

namespace Cert.Model

open Idealize.ShloMosaic
open Cert.Scale (kscale kinv rscale rinv)

/-- A real number of magnitude at most `b`. -/
def Bd (x : EReal) (b : ℝ) : Prop := ∃ r : ℝ, x = r ∧ |r| ≤ b

theorem Bd.mono {x : EReal} {a b : ℝ} (h : Bd x a) (hab : a ≤ b) : Bd x b := by
  obtain ⟨r, e, hr⟩ := h
  exact ⟨r, e, hr.trans hab⟩
theorem Bd.mul {x y : EReal} {a b : ℝ} (hx : Bd x a) (hy : Bd y b) : Bd (x * y) (a * b) := by
  obtain ⟨r, rfl, hr⟩ := hx
  obtain ⟨s, rfl, hs⟩ := hy
  refine ⟨r * s, (EReal.coe_mul r s).symm, ?_⟩
  rw [abs_mul]
  exact mul_le_mul hr hs (abs_nonneg s) ((abs_nonneg r).trans hr)
theorem max_coe (a b : ℝ) : max (a : EReal) (b : EReal) = ((max a b : ℝ) : EReal) :=
  ((EReal.coe_strictMono.monotone).map_max).symm
theorem min_coe (a b : ℝ) : min (a : EReal) (b : EReal) = ((min a b : ℝ) : EReal) :=
  ((EReal.coe_strictMono.monotone).map_min).symm
theorem sum_coe {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]
theorem coe_abs (r : ℝ) : max (r : EReal) (-(r : EReal)) = ((|r| : ℝ) : EReal) := by
  rw [← EReal.coe_neg, max_coe]; rfl
theorem Bd.of_abs {x : EReal} {b : ℝ} (h : max x (-x) ≤ (b : EReal)) : Bd x b := by
  induction x with
  | bot => exact absurd (le_trans (le_max_right _ _) h) (by rw [EReal.neg_bot]; exact not_le.mpr (EReal.coe_lt_top b))
  | top => exact absurd (le_trans (le_max_left _ _) h) (not_le.mpr (EReal.coe_lt_top b))
  | coe r => rw [coe_abs, EReal.coe_le_coe_iff] at h; exact ⟨r, rfl, h⟩

/-! ## The constants -/

theorem recip : Ideal.ofBits .f32 0x3B124925#32 = ((9586981 * (2 : ℝ) ^ (-32 : ℤ) : ℝ) : EReal) := by
  simp [Ideal.ofBits, Ideal.ieee, -EReal.coe_mul]
theorem hi : Ideal.ofBits .f32 0x43E00000#32 = ((448 : ℝ) : EReal) := by
  simp [Ideal.ofBits, Ideal.ieee, -EReal.coe_mul]; norm_num
theorem lo : Ideal.ofBits .f32 0xC3E00000#32 = ((-448 : ℝ) : EReal) := by
  simp [Ideal.ofBits, Ideal.ieee, -EReal.coe_mul]; norm_num

theorem clip_coe (r : ℝ) : ∃ t : ℝ, clip (r : EReal) = t ∧ |t| ≤ |r| := by
  refine ⟨min 448 (max (-448) r), ?_, ?_⟩
  · unfold clip
    rw [hi, lo, max_coe, min_coe]
  · rcases le_total 0 r with h | h
    · rw [max_eq_right (by linarith), abs_of_nonneg (le_min (by norm_num) h), abs_of_nonneg h]
      exact min_le_right _ _
    · have h1 : max (-448) r ≤ 0 := max_le (by norm_num) h
      rw [min_eq_right (h1.trans (by norm_num)), abs_of_nonpos h1, abs_of_nonpos h]
      exact neg_le_neg (le_max_right _ _)

theorem Bd.logistic {x : EReal} {b : ℝ} (h : Bd x b) : Bd (Ideal.logistic x) 1 := by
  obtain ⟨r, rfl, -⟩ := h
  have p := Real.exp_pos (-r)
  refine ⟨(1 + Real.exp (-r))⁻¹, Ideal.logistic_coe r, ?_⟩
  rw [abs_of_nonneg (inv_nonneg.mpr (by linarith))]
  exact inv_le_one_of_one_le₀ (by linarith)

/-! ## Where the two choices of scale agree -/

/-- The kernel's scale of a row is the reference's, one power of two, and so is the factor that undoes it. -/
def Agree {n : ℕ} (v : Fin n → EReal) : Prop :=
  ∃ e : ℤ, kscale (quo v) = (((2 : ℝ) ^ e : ℝ) : EReal) ∧ rscale (quo v) = (((2 : ℝ) ^ e : ℝ) : EReal)
    ∧ kinv (quo v) = (((2 : ℝ) ^ (-e) : ℝ) : EReal) ∧ rinv (quo v) = (((2 : ℝ) ^ (-e) : ℝ) : EReal)

theorem agree_of {n : ℕ} (hn : 0 < n) (v : Fin n → EReal) (B : ℝ) (h : ∀ k, Bd (v k) B) (hB : B ≤ (2 : ℝ) ^ (133 : ℤ)) : Agree v := by
  have lower : ((0 : ℝ) : EReal) ≤ amax v := by
    obtain ⟨r, e, -⟩ := h ⟨0, hn⟩
    refine (Finset.le_fold_max _).mpr (.inr ⟨⟨0, hn⟩, Finset.mem_univ _, ?_⟩)
    rw [e, coe_abs, EReal.coe_le_coe_iff]; exact abs_nonneg r
  have upper : amax v ≤ (B : EReal) := by
    refine (Finset.fold_max_le _).mpr ⟨bot_le, fun k _ => ?_⟩
    obtain ⟨r, e, hr⟩ := h k
    rw [e, coe_abs, EReal.coe_le_coe_iff]; exact hr
  obtain ⟨a, ha⟩ : ∃ a : ℝ, amax v = a :=
    ⟨(amax v).toReal, (EReal.coe_toReal (ne_top_of_le_ne_top (EReal.coe_ne_top B) upper) (ne_bot_of_le_ne_bot (EReal.coe_ne_bot 0) lower)).symm⟩
  rw [ha, EReal.coe_le_coe_iff] at lower upper
  have hq : quo v = ((a * (9586981 * (2 : ℝ) ^ (-32 : ℤ)) : ℝ) : EReal) := by
    unfold quo
    rw [ha, recip, ← EReal.coe_mul]
  unfold Agree
  rw [hq]
  refine Cert.Scale.agree _ (by positivity) ?_
  have h2 : a ≤ (2 : ℝ) ^ (133 : ℤ) := upper.trans hB
  calc a * (9586981 * (2 : ℝ) ^ (-32 : ℤ)) ≤ (2 : ℝ) ^ (133 : ℤ) * (9586981 * (2 : ℝ) ^ (-32 : ℤ)) := by
        exact mul_le_mul_of_nonneg_right h2 (by positivity)
    _ < (2 : ℝ) ^ (126 : ℤ) := by norm_num

theorem Agree.scale {n : ℕ} {v : Fin n → EReal} (h : Agree v) : kscale (quo v) = rscale (quo v) := by
  obtain ⟨e, a, b, -⟩ := h
  rw [a, b]
theorem Agree.inv {n : ℕ} {v : Fin n → EReal} (h : Agree v) : kinv (quo v) = rinv (quo v) := by
  obtain ⟨e, -, -, a, b⟩ := h
  rw [a, b]
theorem Agree.code {n : ℕ} {v : Fin n → EReal} (h : Agree v) : Model.code kinv v = Model.code rinv v := by
  funext k
  unfold Model.code
  rw [h.inv]
theorem Agree.act {x : Fin 5120 → EReal} (h : Agree x) (w : Fin 6912 → Fin 5120 → EReal) (s : Fin 6912 → EReal) :
    Model.act kscale kinv x w s = Model.act rscale rinv x w s := by
  have g (j : Fin 6912) : gu kscale kinv x w s j = gu rscale rinv x w s j := by
    unfold gu
    rw [h.code, h.scale]
  funext n
  unfold Model.act
  rw [g, g]
theorem Agree.down {v : Fin 3456 → EReal} (h : Agree v) (wd : Fin 5120 → Fin 3456 → EReal) (sd : Fin 5120 → EReal) :
    Model.down kscale kinv v wd sd = Model.down rscale rinv v wd sd := by
  funext j
  unfold Model.down
  rw [h.code, h.scale]

/-! ## The activations -/

variable {x : Fin 5120 → EReal} {w : Fin 6912 → Fin 5120 → EReal} {s : Fin 6912 → EReal}

/-- A column of the gate or up projection is at most the sum of the row's magnitudes times 448 and the column's scale: the
    codes times the scale are no greater than the row. -/
theorem gu_bd {B C : ℝ} (hx : ∀ d, Bd (x d) B) (ha : Agree x) (hw : ∀ j d, Bd (w j d) 448) (hs : ∀ j, Bd (s j) C)
    (hxs : ∀ d j, Bd (x d * s j) ((2 : ℝ) ^ 45)) (j : Fin 6912) : Bd (gu kscale kinv x w s j) (5120 * (448 * (2 : ℝ) ^ 45)) := by
  obtain ⟨e, hk, -, hi, -⟩ := ha
  choose xr hxr _ using hx
  have hc (d : Fin 5120) : ∃ t : ℝ, Model.code kinv x d = t ∧ |t| * (2 : ℝ) ^ e ≤ |xr d| := by
    obtain ⟨t, ht, hl⟩ := clip_coe (xr d * (2 : ℝ) ^ (-e))
    refine ⟨t, ?_, ?_⟩
    · unfold Model.code
      rw [hi, hxr, ← EReal.coe_mul, ht]
    · have p : (0 : ℝ) < (2 : ℝ) ^ e := by positivity
      have q : (2 : ℝ) ^ (-e) * (2 : ℝ) ^ e = 1 := by rw [zpow_neg, inv_mul_cancel₀ p.ne']
      calc |t| * (2 : ℝ) ^ e ≤ |xr d * (2 : ℝ) ^ (-e)| * (2 : ℝ) ^ e := mul_le_mul_of_nonneg_right hl p.le
        _ = |xr d| * ((2 : ℝ) ^ (-e) * (2 : ℝ) ^ e) := by
          rw [abs_mul, abs_of_pos (show (0 : ℝ) < (2 : ℝ) ^ (-e) by positivity), mul_assoc]
        _ = |xr d| := by rw [q, mul_one]
  choose cr hcr hcl using hc
  choose wr hwr hwl using fun d => hw j d
  obtain ⟨sr, hsr, -⟩ := hs j
  refine ⟨(∑ d, cr d * wr d) * (2 : ℝ) ^ e * sr, ?_, ?_⟩
  · unfold gu
    rw [hk, hsr]
    simp only [hcr, hwr, ← EReal.coe_mul]
    rw [sum_coe, ← EReal.coe_mul, ← EReal.coe_mul]
  · have term (d : Fin 5120) : |cr d * wr d * ((2 : ℝ) ^ e * sr)| ≤ 448 * (2 : ℝ) ^ 45 := by
      have p : (0 : ℝ) < (2 : ℝ) ^ e := by positivity
      have hd : |xr d| * |sr| ≤ (2 : ℝ) ^ 45 := by
        obtain ⟨t, ht, hl⟩ := hxs d j
        rw [hxr, hsr, ← EReal.coe_mul, EReal.coe_eq_coe_iff] at ht
        rw [← abs_mul, ht]; exact hl
      calc |cr d * wr d * ((2 : ℝ) ^ e * sr)| = |wr d| * ((|cr d| * (2 : ℝ) ^ e) * |sr|) := by
            rw [abs_mul, abs_mul, abs_mul, abs_of_pos p]; ring
        _ ≤ 448 * (|xr d| * |sr|) := by
            refine mul_le_mul (hwl d) (mul_le_mul_of_nonneg_right (hcl d) (abs_nonneg _)) (by positivity) (by norm_num)
        _ ≤ 448 * (2 : ℝ) ^ 45 := mul_le_mul_of_nonneg_left hd (by norm_num)
    rw [mul_assoc, Finset.sum_mul]
    refine (Finset.abs_sum_le_sum_abs _ _).trans ((Finset.sum_le_sum fun d _ => term d).trans (le_of_eq ?_))
    rw [Finset.sum_const, Finset.card_univ, Fintype.card_fin, nsmul_eq_mul]
    norm_num

/-- The two choices of scale agree on the activations too. -/
theorem act_agree {B C : ℝ} (hx : ∀ d, Bd (x d) B) (ha : Agree x) (hw : ∀ j d, Bd (w j d) 448) (hs : ∀ j, Bd (s j) C)
    (hxs : ∀ d j, Bd (x d * s j) ((2 : ℝ) ^ 45)) : Agree (act kscale kinv x w s) := by
  refine agree_of (by norm_num) _ (5120 * (448 * (2 : ℝ) ^ 45) * 1 * (5120 * (448 * (2 : ℝ) ^ 45))) (fun n => ?_) (by norm_num)
  have g := gu_bd hx ha hw hs hxs
  exact ((g _).mul (g _).logistic).mul (g _)

/-! ## The weight's codes -/

/-- A code other than the two that are not numbers is a number of magnitude at most 448. -/
theorem code_bd (b : BitVec 8) (h1 : b ≠ 127#8) (h2 : b ≠ 255#8) : Bd (Ideal.ofBits .fp8e4m3 b) 448 := by
  have hnan : ¬ ((b.extractLsb' 3 4).toNat = 15 ∧ (b.extractLsb' 0 3).toNat = 7) :=
    (by decide +kernel : ∀ b : BitVec 8, b ≠ 127#8 → b ≠ 255#8 → ¬ ((b.extractLsb' 3 4).toNat = 15 ∧ (b.extractLsb' 0 3).toNat = 7)) b h1 h2
  have hex : (b.extractLsb' 3 4).toNat < 16 := (b.extractLsb' 3 4).isLt
  have hfr : (b.extractLsb' 0 3).toNat < 8 := (b.extractLsb' 0 3).isLt
  show Bd (Ideal.e4m3fn b) 448
  unfold Ideal.e4m3fn
  generalize (b.extractLsb' 3 4).toNat = ex at *
  generalize (b.extractLsb' 0 3).toNat = fr at *
  dsimp only
  rw [if_neg hnan]
  have sgn (c : Bool) : |(if c then -1 else 1 : ℝ)| = 1 := by cases c <;> simp
  split
  · refine ⟨_, rfl, ?_⟩
    rw [abs_mul, abs_mul, sgn, one_mul, Nat.abs_cast, abs_of_pos (by positivity)]
    have : (fr : ℝ) ≤ 8 := by exact_mod_cast hfr.le
    calc (fr : ℝ) * (2 : ℝ) ^ (-9 : ℤ) ≤ 8 * (2 : ℝ) ^ (-9 : ℤ) := mul_le_mul_of_nonneg_right this (by positivity)
      _ ≤ 448 := by norm_num
  · refine ⟨_, rfl, ?_⟩
    rw [abs_mul, abs_mul, sgn, one_mul, Nat.abs_cast, abs_of_pos (by positivity)]
    by_cases h : ex = 15
    · subst h
      have : ((8 + fr : ℕ) : ℝ) ≤ 14 := by exact_mod_cast (by omega : 8 + fr ≤ 14)
      calc ((8 + fr : ℕ) : ℝ) * (2 : ℝ) ^ (((15 : ℕ) : ℤ) - 10) ≤ 14 * (2 : ℝ) ^ (((15 : ℕ) : ℤ) - 10) := mul_le_mul_of_nonneg_right this (by positivity)
        _ ≤ 448 := by norm_num
    · have : ((8 + fr : ℕ) : ℝ) ≤ 15 := by exact_mod_cast (by omega : 8 + fr ≤ 15)
      have e4 : (2 : ℝ) ^ ((ex : ℤ) - 10) ≤ (2 : ℝ) ^ (4 : ℤ) := zpow_le_zpow_right₀ one_le_two (by omega)
      calc ((8 + fr : ℕ) : ℝ) * (2 : ℝ) ^ ((ex : ℤ) - 10) ≤ 15 * (2 : ℝ) ^ (4 : ℤ) := mul_le_mul this e4 (by positivity) (by norm_num)
        _ ≤ 448 := by norm_num

end Cert.Model

end
-- ==== Proof.GateNames.lean ====
module

public import proofs.«01_k».proof.Proof.Gen.KernelIdeal.Skeleton
public import Idealize.ShloMosaic.Lib.Pipeline.Kit
public import Idealize.ShloMosaic.Lib.Pipeline.Value
public import Idealize.ShloMosaic.Lib.VecWindow
public import Idealize.ShloMosaic.Lib.Pipeline.FrameBody
public import Idealize.ShloMosaic.Lib.Tactic

@[expose] public section

set_option maxRecDepth 16384

noncomputable section

namespace Cert.KernelIdeal.Gate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # What one point of the gate/up pipeline leaves, by name

The first `pallas_call` visits, for each row block of `x`, nine column blocks.  These definitions name what the body
stores: the codes and the scales of `x` (at the first column block), one slice of the kept activations (at every
column block), and the codes and the scales of the activations (at the last). -/

/-- Slice `k` of the kept activations `D`. -/
def sl0 (D : Vec F S9x512x384 .f32) : Vec F S1x512x384 .f32 := View.ld D (Rect.unit (s := S9x512x384) ![0, 0, 0] S1x512x384.size inb_S9x512x384_S1x512x384_0_0_0)
@[inherit_doc sl0] def sl1 (D : Vec F S9x512x384 .f32) : Vec F S1x512x384 .f32 := View.ld D (Rect.unit (s := S9x512x384) ![1, 0, 0] S1x512x384.size inb_S9x512x384_S1x512x384_1_0_0)
@[inherit_doc sl0] def sl2 (D : Vec F S9x512x384 .f32) : Vec F S1x512x384 .f32 := View.ld D (Rect.unit (s := S9x512x384) ![2, 0, 0] S1x512x384.size inb_S9x512x384_S1x512x384_2_0_0)
@[inherit_doc sl0] def sl3 (D : Vec F S9x512x384 .f32) : Vec F S1x512x384 .f32 := View.ld D (Rect.unit (s := S9x512x384) ![3, 0, 0] S1x512x384.size inb_S9x512x384_S1x512x384_3_0_0)
@[inherit_doc sl0] def sl4 (D : Vec F S9x512x384 .f32) : Vec F S1x512x384 .f32 := View.ld D (Rect.unit (s := S9x512x384) ![4, 0, 0] S1x512x384.size inb_S9x512x384_S1x512x384_4_0_0)
@[inherit_doc sl0] def sl5 (D : Vec F S9x512x384 .f32) : Vec F S1x512x384 .f32 := View.ld D (Rect.unit (s := S9x512x384) ![5, 0, 0] S1x512x384.size inb_S9x512x384_S1x512x384_5_0_0)
@[inherit_doc sl0] def sl6 (D : Vec F S9x512x384 .f32) : Vec F S1x512x384 .f32 := View.ld D (Rect.unit (s := S9x512x384) ![6, 0, 0] S1x512x384.size inb_S9x512x384_S1x512x384_6_0_0)
@[inherit_doc sl0] def sl7 (D : Vec F S9x512x384 .f32) : Vec F S1x512x384 .f32 := View.ld D (Rect.unit (s := S9x512x384) ![7, 0, 0] S1x512x384.size inb_S9x512x384_S1x512x384_7_0_0)
@[inherit_doc sl0] def sl8 (D : Vec F S9x512x384 .f32) : Vec F S1x512x384 .f32 := View.ld D (Rect.unit (s := S9x512x384) ![8, 0, 0] S1x512x384.size inb_S9x512x384_S1x512x384_8_0_0)

/-- The codes of a row block of `x`. -/
def xcOf (x : Vec F S512x5120 .bf16) : Vec F S512x5120 .fp8e4m3 := k0_pay21 (k0_pay1 x) (k0_pay4 x)

/-- The scales of a row block of `x`. -/
def xsOf (x : Vec F S512x5120 .bf16) : Vec F S512x1 .f32 := k0_pay3 x

/-- The greatest absolute activations over slices 0 to 7, elementwise. -/
def top (D : Vec F S9x512x384 .f32) : FVec F S512x384 .f32 := k0_pay5 (sl0 D) (sl1 D) (sl2 D) (sl3 D) (sl4 D) (sl5 D) (sl6 D) (sl7 D)

/-- The scales of the activations. -/
def hsOf (D : Vec F S9x512x384 .f32) : Vec F S512x1 .f32 := k0_pay8 (top D) (k0_pay6 (sl8 D))

/-- The reciprocals of those scales. -/
def hinvOf (D : Vec F S9x512x384 .f32) : FVec F S512x1 .f32 := k0_pay9 (top D) (k0_pay6 (sl8 D))

/-- The codes of the activations: nine column blocks, one of each slice. -/
def hcOf (D : Vec F S9x512x384 .f32) : Vec F S512x3456 .fp8e4m3 :=
  View.canon (Val := Elt F) (s := S512x3456) (e := .fp8e4m3) [
    ⟨Rect.unit (s := S512x3456) ![0, 3072] S512x384.size inb_S512x3456_S512x384_0_3072, k0_pay24 (hinvOf D) (sl8 D)⟩,
    ⟨Rect.unit (s := S512x3456) ![0, 2688] S512x384.size inb_S512x3456_S512x384_0_2688, k0_pay23 (hinvOf D) (sl7 D)⟩,
    ⟨Rect.unit (s := S512x3456) ![0, 2304] S512x384.size inb_S512x3456_S512x384_0_2304, k0_pay20 (hinvOf D) (sl6 D)⟩,
    ⟨Rect.unit (s := S512x3456) ![0, 1920] S512x384.size inb_S512x3456_S512x384_0_1920, k0_pay19 (hinvOf D) (sl5 D)⟩,
    ⟨Rect.unit (s := S512x3456) ![0, 1536] S512x384.size inb_S512x3456_S512x384_0_1536, k0_pay18 (hinvOf D) (sl4 D)⟩,
    ⟨Rect.unit (s := S512x3456) ![0, 1152] S512x384.size inb_S512x3456_S512x384_0_1152, k0_pay17 (k0_pay15 (hinvOf D) (sl3 D)) (k0_pay16 (F := F))⟩,
    ⟨Rect.unit (s := S512x3456) ![0, 768] S512x384.size inb_S512x3456_S512x384_0_768, k0_pay14 (hinvOf D) (sl2 D)⟩,
    ⟨Rect.unit (s := S512x3456) ![0, 384] S512x384.size inb_S512x3456_S512x384_0_384, k0_pay13 (hinvOf D) (sl1 D)⟩,
    ⟨Rect.unit (s := S512x3456) ![0, 0] S512x384.size inb_S512x3456_S512x384_0_0, k0_pay12 (k0_pay10 (sl0 D)) (k0_pay11 (top D) (k0_pay6 (sl8 D)))⟩]

/-- The kept activations `f` with the slice of the point `i` replaced by `h`. -/
def putAt (i : grid0.Coords) (f : Vec F S9x512x384 .f32) (h : Vec F S1x512x384 .f32) : Vec F S9x512x384 .f32 :=
  VecWindow.put f (k0_off1 i) S1x512x384.size h

/-- A load of a whole buffer reads its contents. -/
theorem read_whole {s : Shape} {e : EltTy} {m : Memref sig .tc .vmem s e} (h : m.IsWhole) (x : s.Idx → Elt F e) {off : Fin s.rank → ℕ}
    (inb : ∀ a, off a + s.size a ≤ s.size a) : m.view.readAt (Elt F) (Rect.unit off s.size inb).toLoadRect (h.unread x) = x :=
  (View.readAt_full _ _ inb).trans (h.read_unread x)

/-- The kept activations after the store of one slice. -/
theorem read_putAt {m : Memref sig .tc .vmem S9x512x384 .f32} (hm : m.IsWhole) (i : grid0.Coords) (D : Vec F S9x512x384 .f32)
    (h : Vec F S1x512x384 .f32) (inb : ∀ a, k0_off1 i a + S1x512x384.size a ≤ S9x512x384.size a) :
    m.view.read (Elt F) (m.view.writes (Elt F) (hm.unread D) [⟨Rect.unit (k0_off1 i) S1x512x384.size inb, h⟩]) = putAt i D h := by
  rw [View.read_writes_cons_put _ _ _ _ _ rfl, View.writes_nil, hm.read_unread]; rfl

/-- A load of a slice after that store. -/
theorem load_putAt {m : Memref sig .tc .vmem S9x512x384 .f32} (hm : m.IsWhole) (i : grid0.Coords) (D : Vec F S9x512x384 .f32)
    (h : Vec F S1x512x384 .f32) (inb : ∀ a, k0_off1 i a + S1x512x384.size a ≤ S9x512x384.size a) {off : Fin 3 → ℕ}
    (inb' : ∀ a, off a + S1x512x384.size a ≤ S9x512x384.size a) :
    m.view.readAt (Elt F) (Rect.unit (s := S9x512x384) off S1x512x384.size inb').toLoadRect
        (m.view.writes (Elt F) (hm.unread D) [⟨Rect.unit (k0_off1 i) S1x512x384.size inb, h⟩])
      = View.ld (putAt i D h) (Rect.unit (s := S9x512x384) off S1x512x384.size inb') := by
  rw [View.readAt_eq_ld, read_putAt]

end Cert.KernelIdeal.Gate

end
-- ==== Proof.KerScale.lean ====
/- The kernel's quantiser payloads read at an index, over the extended reals: the row quotient, the exponent taken from
   its exponent field, the scale, the inverse scale and the codes. -/
module

public import proofs.«01_k».proof.Proof.GateNames
public import Idealize.ShloMosaic.Lib.Pointwise
public import proofs.«01_k».proof.Proof.Scale

@[expose] public section

set_option maxRecDepth 16384

noncomputable section

namespace Cert.KernelIdeal.Scale

open Cert.KernelIdeal Cert.KernelIdeal.Gen Idealize.ShloMosaic

theorem mulf_at {s : Shape} {φ : FTy} (a b : FVec Ideal s φ) (i : s.Idx) : mulf a b i = a i * b i := rfl
theorem const_at {s : Shape} {φ : FTy} (w : BitVec φ.bits) (i : s.Idx) : broadcast s (Scalar.ofBits (F := Ideal) φ w) i = Ideal.ofBits φ w := rfl

/-- The candidate fields of a column of row quotients: `k` where the field's power is at most the quotient, else 0. -/
def cand (v42 : FVec Ideal S512x1 .f32) : IVec S512x256 32 :=
  have v43 : IVec S1x256 32 := iota .tc S1x256 32 [1] iota_S1x256_d1_w32
  have v44 : IVec S1x256 32 := broadcast S1x256 23#32
  have v45 : IVec S1x256 32 := shli v43 v44
  have v46 : FVec Ideal S1x256 .f32 := bitcastToFloat .f32 v45
  have v47 : FVec Ideal S512x256 .f32 := broadcastTo S512x256 v42 broadcasts_S512x1_S512x256
  have v48 : FVec Ideal S512x256 .f32 := broadcastTo S512x256 v46 broadcasts_S1x256_S512x256
  have v49 : IVec S512x256 1 := cmpf .olt v47 v48
  have v50 : IVec S512x256 32 := broadcast S512x256 0#32
  have v51 : IVec S1x256 32 := shapeCast S1x256 v43 shapeCasts_S1x256_S1x256
  have v52 : IVec S512x256 32 := broadcastTo S512x256 v51 broadcasts_S1x256_S512x256
  have v53 : IVec S512x256 32 := select v49 v50 v52
  v53

/-- The greatest candidate of each row. -/
def greatest (v53 : IVec S512x256 32) : IVec S512x1 32 :=
  shapeCast S512x1 (multiReductionI .maxsi [1] S512 v53 2147483648#32 reduces_S512x256_S512 rfl) shapeCasts_S512_S512x1

/-- The exponent from the field. -/
def expo (v55 : IVec S512x1 32) : IVec S512x1 32 :=
  have v56 : IVec S512x1 32 := broadcast S512x1 0#32
  have v57 : IVec S512x1 1 := cmpi .eq v55 v56
  have v58 : IVec S512x1 32 := broadcast S512x1 126#32
  have v59 : IVec S512x1 32 := subi v55 v58
  have v60 : IVec S512x1 32 := broadcast S512x1 0#32
  have v61 : IVec S512x1 32 := select v57 v60 v59
  v61

/-- The row quotients: the greatest magnitude of each row times the float nearest 1/448. -/
def quoX (v37 : FVec Ideal S512x5120 .bf16) : FVec Ideal S512x1 .f32 :=
  mulf (extf .f32 (shapeCast S512x1 (multiReduction .maximumf [1] S512 v37 0xFF80#16 reduces_S512x5120_S512 (.inr rfl) rfl) shapeCasts_S512_S512x1) bitsLt_bf16_f32)
    (broadcast S512x1 (Scalar.ofBits .f32 0x3B124925#32))
def quoH (v69 : FVec Ideal S512x384 .f32) : FVec Ideal S512x1 .f32 :=
  mulf (shapeCast S512x1 (multiReduction .maximumf [1] S512 v69 0xFF800000#32 reduces_S512x384_S512 (.inl rfl) rfl) shapeCasts_S512_S512x1)
    (broadcast S512x1 (Scalar.ofBits .f32 0x3B124925#32))

theorem pay2_eq (x : Vec Ideal S512x5120 .bf16) : k0_pay2 x = expo (greatest (cand (quoX (absf (k0_pay1 x))))) := rfl
theorem pay7_eq (t l : FVec Ideal S512x384 .f32) : k0_pay7 t l = expo (greatest (cand (quoH (maximumf t (absf l))))) := rfl

theorem cand_apply (q : FVec Ideal S512x1 .f32) (r : Fin 512) (k : Fin 256) :
    cand q (ix2 r k) = if q (ix2 r 0) < Ideal.ofBits .f32 (Cert.Scale.word (BitVec.ofNat 32 k)) then 0#32 else BitVec.ofNat 32 k := by
  pointwise [cand]
theorem greatest_apply (v : IVec S512x256 32) (r : Fin 512) :
    greatest v (ix2 r 0) = Finset.univ.fold IntOp.maxsi 2147483648#32 (fun k : Fin 256 => v (ix2 r k)) := by
  pointwise [greatest]
theorem expo_apply (v : IVec S512x1 32) (r : Fin 512) :
    expo v (ix2 r 0) = if v (ix2 r 0) = 0#32 then 0#32 else IntOp.subi (v (ix2 r 0)) 126#32 := by
  pointwise [expo]
  by_cases h : v (ix2 r 0) = 0#32
  · rw [h]; rfl
  · have e : IntOp.cmpi .eq (v (ix2 r 0)) 0#32 = 0#1 := by
      show BitVec.ofBool (v (ix2 r 0) == 0#32) = 0#1
      rw [beq_eq_false_iff_ne.mpr h]; rfl
    rw [e, if_neg h]; rfl
theorem topX_apply (v : FVec Ideal S512x5120 .bf16) (r : Fin 512) :
    (extf .f32 (shapeCast S512x1 (multiReduction .maximumf [1] S512 v 0xFF80#16 reduces_S512x5120_S512 (.inr rfl) rfl) shapeCasts_S512_S512x1) bitsLt_bf16_f32 : FVec Ideal S512x1 .f32) (ix2 r 0)
      = Finset.univ.fold max (Ideal.ofBits .bf16 0xFF80#16) (fun k : Fin 5120 => v (ix2 r k)) := by
  pointwise
theorem topH_apply (v : FVec Ideal S512x384 .f32) (r : Fin 512) :
    (shapeCast S512x1 (multiReduction .maximumf [1] S512 v 0xFF800000#32 reduces_S512x384_S512 (.inl rfl) rfl) shapeCasts_S512_S512x1) (ix2 r 0)
      = Finset.univ.fold max (Ideal.ofBits .f32 0xFF800000#32) (fun k : Fin 384 => v (ix2 r k)) := by
  pointwise
theorem quoX_apply (v : FVec Ideal S512x5120 .bf16) (r : Fin 512) :
    quoX v (ix2 r 0) = Finset.univ.fold max (Ideal.ofBits .bf16 0xFF80#16) (fun k : Fin 5120 => v (ix2 r k)) * Ideal.ofBits .f32 0x3B124925#32 := by
  unfold quoX
  rw [mulf_at, const_at, topX_apply]
theorem quoH_apply (v : FVec Ideal S512x384 .f32) (r : Fin 512) :
    quoH v (ix2 r 0) = Finset.univ.fold max (Ideal.ofBits .f32 0xFF800000#32) (fun k : Fin 384 => v (ix2 r k)) * Ideal.ofBits .f32 0x3B124925#32 := by
  unfold quoH
  rw [mulf_at, const_at, topH_apply]

/-- The exponent of a row, from its quotient. -/
theorem exponent_apply (q : FVec Ideal S512x1 .f32) (r : Fin 512) : expo (greatest (cand q)) (ix2 r 0) = Cert.Scale.kexp (q (ix2 r 0)) := by
  rw [expo_apply, greatest_apply]
  simp only [cand_apply]
  rfl

theorem pay3_apply (x : Vec Ideal S512x5120 .bf16) (r : Fin 512) :
    k0_pay3 x (ix2 r 0) = Cert.Scale.kscale (quoX (absf (k0_pay1 x)) (ix2 r 0)) := by
  unfold k0_pay3 Cert.Scale.kscale
  rw [pay2_eq, ← exponent_apply]
  rfl
theorem pay4_apply (x : Vec Ideal S512x5120 .bf16) (r : Fin 512) (d : Fin 5120) :
    k0_pay4 x (ix2 r d) = Cert.Scale.kinv (quoX (absf (k0_pay1 x)) (ix2 r 0)) := by
  unfold Cert.Scale.kinv
  rw [← exponent_apply, ← pay2_eq]
  pointwise [k0_pay4]
theorem pay8_apply (t l : FVec Ideal S512x384 .f32) (r : Fin 512) :
    k0_pay8 t l (ix2 r 0) = Cert.Scale.kscale (quoH (maximumf t (absf l)) (ix2 r 0)) := by
  unfold k0_pay8 Cert.Scale.kscale
  rw [pay7_eq, ← exponent_apply]
  rfl
theorem pay9_apply (t l : FVec Ideal S512x384 .f32) (r : Fin 512) :
    k0_pay9 t l (ix2 r 0) = Cert.Scale.kinv (quoH (maximumf t (absf l)) (ix2 r 0)) := by
  unfold k0_pay9 Cert.Scale.kinv
  rw [pay7_eq, ← exponent_apply]
  rfl

end Cert.KernelIdeal.Scale

end
-- ==== Proof.KerPay.lean ====
/- The kernel's blocks at an index, over the extended reals, as the row functions of `Model` at the kernel's choice of scale. -/
module

public import proofs.«01_k».proof.Proof.KerScale
public import proofs.«01_k».proof.Proof.Model
public import Idealize.ShloMosaic.Lib.Pipeline.Value

@[expose] public section

set_option maxRecDepth 16384

noncomputable section

namespace Cert.KernelIdeal.Pay

open Cert.KernelIdeal Cert.KernelIdeal.Gen Cert.KernelIdeal.Gate Cert.KernelIdeal.Scale Idealize.ShloMosaic
open Cert.Scale (kscale kinv)

theorem bot32 : Ideal.ofBits .f32 0xFF800000#32 = ⊥ := by
  simp [Ideal.ofBits, Ideal.ieee]
theorem bot16 : Ideal.ofBits .bf16 0xFF80#16 = ⊥ := by
  simp [Ideal.ofBits, Ideal.ieee]

/-- The codes and the scale of a row of an `x` block. -/
theorem quo_x (x : Vec Ideal S512x5120 .bf16) (r : Fin 512) :
    quoX (absf (k0_pay1 x)) (ix2 r 0) = Model.quo fun d => x (ix2 r d) := by
  have h (k : Fin 5120) : absf (k0_pay1 x) (ix2 r k) = max (x (ix2 r k)) (-(x (ix2 r k))) := by
    pointwise [k0_pay1]
    rfl
  rw [quoX_apply, bot16]
  simp only [h]
  rfl
theorem xcOf_apply (x : Vec Ideal S512x5120 .bf16) (r : Fin 512) (d : Fin 5120) :
    xcOf x (ix2 r d) = Model.code kinv (fun d => x (ix2 r d)) d := by
  unfold xcOf
  have h : k0_pay21 (k0_pay1 x) (k0_pay4 x) (ix2 r d) = Model.clip (x (ix2 r d) * k0_pay4 x (ix2 r d)) := by
    pointwise [k0_pay21, k0_pay1]
    rfl
  rw [h, pay4_apply, quo_x]; rfl
theorem xsOf_apply (x : Vec Ideal S512x5120 .bf16) (r : Fin 512) :
    xsOf x (ix2 r 0) = kscale (Model.quo fun d => x (ix2 r d)) := by
  unfold xsOf
  rw [pay3_apply, quo_x]

/-- One activation of a slice. -/
theorem pay22_apply (xc : Vec Ideal S512x5120 .fp8e4m3) (xs : Vec Ideal S512x1 .f32) (wg wu : Vec Ideal S384x5120 .fp8e4m3)
    (sg su : Vec Ideal S1x384 .f32) (r : Fin 512) (j : Fin 384) :
    k0_pay22 xc xs wg wu sg su (ix3 0 r j)
      = ((∑ d : Fin 5120, xc (ix2 r d) * wg (ix2 j d)) * xs (ix2 r 0) * sg (ix2 0 j))
          * Ideal.logistic ((∑ d : Fin 5120, xc (ix2 r d) * wg (ix2 j d)) * xs (ix2 r 0) * sg (ix2 0 j))
          * ((∑ d : Fin 5120, xc (ix2 r d) * wu (ix2 j d)) * xs (ix2 r 0) * su (ix2 0 j)) := by
  pointwise [k0_pay22]

/-- Row `r` of the kept activations. -/
def hrow (D : Vec Ideal S9x512x384 .f32) (r : Fin 512) (n : Fin 3456) : EReal :=
  D (ix3 ⟨n.val / 384, by omega⟩ r ⟨n.val % 384, by omega⟩)

theorem ld_apply (D : Vec Ideal S9x512x384 .f32) (k : Fin 9) (inb : ∀ a, (![k.val, 0, 0] : Fin 3 → ℕ) a + S1x512x384.size a ≤ S9x512x384.size a)
    (r : Fin 512) (l : Fin 384) :
    View.ld D (Rect.unit (s := S9x512x384) ![k.val, 0, 0] S1x512x384.size inb) (ix3 0 r l) = D (ix3 k r l) := by
  show D _ = _
  congr 1; funext a; apply Fin.ext
  match a with
  | ⟨0, _⟩ => show k.val + 1 * 0 = k.val; omega
  | ⟨1, _⟩ => show 0 + 1 * r.val = r.val; omega
  | ⟨2, _⟩ => show 0 + 1 * l.val = l.val; omega

/-- The magnitude. -/
def absI (x : EReal) : EReal := max x (-x)

theorem sl0_apply (D : Vec Ideal S9x512x384 .f32) (r : Fin 512) (l : Fin 384) : sl0 D (ix3 0 r l) = D (ix3 0 r l) := ld_apply D 0 inb_S9x512x384_S1x512x384_0_0_0 r l
theorem sl1_apply (D : Vec Ideal S9x512x384 .f32) (r : Fin 512) (l : Fin 384) : sl1 D (ix3 0 r l) = D (ix3 1 r l) := ld_apply D 1 inb_S9x512x384_S1x512x384_1_0_0 r l
theorem sl2_apply (D : Vec Ideal S9x512x384 .f32) (r : Fin 512) (l : Fin 384) : sl2 D (ix3 0 r l) = D (ix3 2 r l) := ld_apply D 2 inb_S9x512x384_S1x512x384_2_0_0 r l
theorem sl3_apply (D : Vec Ideal S9x512x384 .f32) (r : Fin 512) (l : Fin 384) : sl3 D (ix3 0 r l) = D (ix3 3 r l) := ld_apply D 3 inb_S9x512x384_S1x512x384_3_0_0 r l
theorem sl4_apply (D : Vec Ideal S9x512x384 .f32) (r : Fin 512) (l : Fin 384) : sl4 D (ix3 0 r l) = D (ix3 4 r l) := ld_apply D 4 inb_S9x512x384_S1x512x384_4_0_0 r l
theorem sl5_apply (D : Vec Ideal S9x512x384 .f32) (r : Fin 512) (l : Fin 384) : sl5 D (ix3 0 r l) = D (ix3 5 r l) := ld_apply D 5 inb_S9x512x384_S1x512x384_5_0_0 r l
theorem sl6_apply (D : Vec Ideal S9x512x384 .f32) (r : Fin 512) (l : Fin 384) : sl6 D (ix3 0 r l) = D (ix3 6 r l) := ld_apply D 6 inb_S9x512x384_S1x512x384_6_0_0 r l
theorem sl7_apply (D : Vec Ideal S9x512x384 .f32) (r : Fin 512) (l : Fin 384) : sl7 D (ix3 0 r l) = D (ix3 7 r l) := ld_apply D 7 inb_S9x512x384_S1x512x384_7_0_0 r l
theorem sl8_apply (D : Vec Ideal S9x512x384 .f32) (r : Fin 512) (l : Fin 384) : sl8 D (ix3 0 r l) = D (ix3 8 r l) := ld_apply D 8 inb_S9x512x384_S1x512x384_8_0_0 r l

/-- The greatest of nine slices, elementwise. -/
theorem greatest9 (D : Vec Ideal S9x512x384 .f32) (r : Fin 512) (l : Fin 384) :
    maximumf (top D) (absf (k0_pay6 (sl8 D))) (ix2 r l)
      = max (max (max (max (max (max (max (max (absI (D (ix3 0 r l))) (absI (D (ix3 1 r l)))) (absI (D (ix3 2 r l)))) (absI (D (ix3 3 r l))))
          (absI (D (ix3 4 r l)))) (absI (D (ix3 5 r l)))) (absI (D (ix3 6 r l)))) (absI (D (ix3 7 r l)))) (absI (D (ix3 8 r l))) := by
  have h : maximumf (top D) (absf (k0_pay6 (sl8 D))) (ix2 r l)
      = max (max (max (max (max (max (max (max (absI (sl0 D (ix3 0 r l))) (absI (sl1 D (ix3 0 r l)))) (absI (sl2 D (ix3 0 r l)))) (absI (sl3 D (ix3 0 r l))))
          (absI (sl4 D (ix3 0 r l)))) (absI (sl5 D (ix3 0 r l)))) (absI (sl6 D (ix3 0 r l)))) (absI (sl7 D (ix3 0 r l)))) (absI (sl8 D (ix3 0 r l))) := by
    pointwise [top, k0_pay5, k0_pay6]
    rfl
  rw [h, sl0_apply, sl1_apply, sl2_apply, sl3_apply, sl4_apply, sl5_apply, sl6_apply, sl7_apply, sl8_apply]

/-- The greatest over the columns of the greatest of nine slices is the greatest over the whole row. -/
theorem quo_h (D : Vec Ideal S9x512x384 .f32) (r : Fin 512) :
    quoH (maximumf (top D) (absf (k0_pay6 (sl8 D)))) (ix2 r 0) = Model.quo (hrow D r) := by
  rw [quoH_apply, bot32]
  unfold Model.quo Model.amax
  congr 1
  simp only [greatest9]
  apply le_antisymm
  · refine (Finset.fold_max_le _).mpr ⟨bot_le, fun l _ => ?_⟩
    have key (k : Fin 9) : absI (D (ix3 k r l)) ≤ Finset.univ.fold max ⊥ fun n => max (hrow D r n) (-(hrow D r n)) := by
      refine Finset.le_fold_max _ |>.mpr (.inr ⟨⟨k.val * 384 + l.val, by omega⟩, Finset.mem_univ _, le_of_eq ?_⟩)
      have e : hrow D r ⟨k.val * 384 + l.val, by omega⟩ = D (ix3 k r l) := by
        unfold hrow
        have e0 : (⟨(k.val * 384 + l.val) / 384, by omega⟩ : Fin 9) = k := Fin.ext (by show (k.val * 384 + l.val) / 384 = k.val; omega)
        have e1 : (⟨(k.val * 384 + l.val) % 384, by omega⟩ : Fin 384) = l := Fin.ext (by show (k.val * 384 + l.val) % 384 = l.val; omega)
        show D (ix3 ⟨(k.val * 384 + l.val) / 384, _⟩ r ⟨(k.val * 384 + l.val) % 384, _⟩) = _
        rw [e0, e1]
      rw [e]; rfl
    simp only [max_le_iff]
    exact ⟨⟨⟨⟨⟨⟨⟨⟨key 0, key 1⟩, key 2⟩, key 3⟩, key 4⟩, key 5⟩, key 6⟩, key 7⟩, key 8⟩
  · refine (Finset.fold_max_le _).mpr ⟨bot_le, fun n _ => ?_⟩
    refine Finset.le_fold_max _ |>.mpr (.inr ⟨⟨n.val % 384, by omega⟩, Finset.mem_univ _, ?_⟩)
    show absI (D (ix3 ⟨n.val / 384, _⟩ r ⟨n.val % 384, _⟩)) ≤ _
    generalize (⟨n.val / 384, by omega⟩ : Fin 9) = k
    fin_cases k <;> simp only [le_max_iff] <;> simp

theorem hsOf_apply (D : Vec Ideal S9x512x384 .f32) (r : Fin 512) : hsOf D (ix2 r 0) = kscale (Model.quo (hrow D r)) := by
  unfold hsOf
  rw [pay8_apply, quo_h]

/-- The codes of the activations, one column block of each slice. -/
theorem hinv_apply (D : Vec Ideal S9x512x384 .f32) (r : Fin 512) : hinvOf D (ix2 r 0) = kinv (Model.quo (hrow D r)) := by
  unfold hinvOf
  rw [pay9_apply, quo_h]

theorem hrow_at (D : Vec Ideal S9x512x384 .f32) (r : Fin 512) (k : Fin 9) (l : Fin 384) (n : Fin 3456) (h : n.val = k.val * 384 + l.val) :
    hrow D r n = D (ix3 k r l) := by
  have e0 : (⟨n.val / 384, by omega⟩ : Fin 9) = k := Fin.ext (by show n.val / 384 = k.val; omega)
  have e1 : (⟨n.val % 384, by omega⟩ : Fin 384) = l := Fin.ext (by show n.val % 384 = l.val; omega)
  show D (ix3 ⟨n.val / 384, _⟩ r ⟨n.val % 384, _⟩) = _
  rw [e0, e1]

/-- The codes at an index of the whole row block. -/
def codes (D : Vec Ideal S9x512x384 .f32) : Vec Ideal S512x3456 .fp8e4m3 := fun i => Model.code kinv (hrow D (i 0)) (i 1)

theorem codes_at (D : Vec Ideal S9x512x384 .f32) (k : Fin 9) (p : FVec Ideal S512x384 .fp8e4m3)
    (hp : ∀ r l, p (ix2 r l) = Model.clip (D (ix3 k r l) * hinvOf D (ix2 r 0))) (off : ℕ) (hoff : off = k.val * 384)
    (inb : ∀ a, (![0, off] : Fin 2 → ℕ) a + S512x384.size a ≤ S512x3456.size a) (x : S512x384.Idx) :
    p x = codes D ((Rect.unit (s := S512x3456) ![0, off] S512x384.size inb).emb x) := by
  obtain ⟨r, l, rfl⟩ : ∃ (r : Fin 512) (l : Fin 384), x = (ix2 r l : S512x384.Idx) := ⟨x 0, x 1, eq_ix2 x⟩
  rw [hp, hinv_apply]
  have e : (Rect.unit (s := S512x3456) ![0, off] S512x384.size inb).emb (ix2 r l : S512x384.Idx)
      = (ix2 r ⟨k.val * 384 + l.val, by omega⟩ : S512x3456.Idx) := by
    funext a; apply Fin.ext
    match a with
    | ⟨0, _⟩ => show 0 + 1 * r.val = r.val; omega
    | ⟨1, _⟩ => show off + 1 * l.val = k.val * 384 + l.val; omega
  rw [e]
  show _ = Model.clip (hrow D r ⟨k.val * 384 + l.val, _⟩ * _)
  rw [hrow_at D r k l _ rfl]
  rfl

theorem piece0 (D : Vec Ideal S9x512x384 .f32) (r : Fin 512) (l : Fin 384) :
    k0_pay12 (k0_pay10 (sl0 D)) (k0_pay11 (top D) (k0_pay6 (sl8 D))) (ix2 r l) = Model.clip (D (ix3 0 r l) * hinvOf D (ix2 r 0)) := by
  have h : k0_pay12 (k0_pay10 (sl0 D)) (k0_pay11 (top D) (k0_pay6 (sl8 D))) (ix2 r l) = Model.clip (sl0 D (ix3 0 r l) * k0_pay9 (top D) (k0_pay6 (sl8 D)) (ix2 r 0)) := by
    pointwise [k0_pay12, k0_pay10, k0_pay11]
    rfl
  rw [h, sl0_apply]; rfl
theorem piece1 (D : Vec Ideal S9x512x384 .f32) (r : Fin 512) (l : Fin 384) :
    k0_pay13 (hinvOf D) (sl1 D) (ix2 r l) = Model.clip (D (ix3 1 r l) * hinvOf D (ix2 r 0)) := by
  have h : k0_pay13 (hinvOf D) (sl1 D) (ix2 r l) = Model.clip (sl1 D (ix3 0 r l) * hinvOf D (ix2 r 0)) := by
    pointwise [k0_pay13]
    rfl
  rw [h, sl1_apply]
theorem piece2 (D : Vec Ideal S9x512x384 .f32) (r : Fin 512) (l : Fin 384) :
    k0_pay14 (hinvOf D) (sl2 D) (ix2 r l) = Model.clip (D (ix3 2 r l) * hinvOf D (ix2 r 0)) := by
  have h : k0_pay14 (hinvOf D) (sl2 D) (ix2 r l) = Model.clip (sl2 D (ix3 0 r l) * hinvOf D (ix2 r 0)) := by
    pointwise [k0_pay14]
    rfl
  rw [h, sl2_apply]
theorem piece3 (D : Vec Ideal S9x512x384 .f32) (r : Fin 512) (l : Fin 384) :
    k0_pay17 (k0_pay15 (hinvOf D) (sl3 D)) k0_pay16 (ix2 r l) = Model.clip (D (ix3 3 r l) * hinvOf D (ix2 r 0)) := by
  have h : k0_pay17 (k0_pay15 (hinvOf D) (sl3 D)) k0_pay16 (ix2 r l) = Model.clip (sl3 D (ix3 0 r l) * hinvOf D (ix2 r 0)) := by
    pointwise [k0_pay17, k0_pay15, k0_pay16]
    rfl
  rw [h, sl3_apply]
theorem piece4 (D : Vec Ideal S9x512x384 .f32) (r : Fin 512) (l : Fin 384) :
    k0_pay18 (hinvOf D) (sl4 D) (ix2 r l) = Model.clip (D (ix3 4 r l) * hinvOf D (ix2 r 0)) := by
  have h : k0_pay18 (hinvOf D) (sl4 D) (ix2 r l) = Model.clip (sl4 D (ix3 0 r l) * hinvOf D (ix2 r 0)) := by
    pointwise [k0_pay18]
    rfl
  rw [h, sl4_apply]
theorem piece5 (D : Vec Ideal S9x512x384 .f32) (r : Fin 512) (l : Fin 384) :
    k0_pay19 (hinvOf D) (sl5 D) (ix2 r l) = Model.clip (D (ix3 5 r l) * hinvOf D (ix2 r 0)) := by
  have h : k0_pay19 (hinvOf D) (sl5 D) (ix2 r l) = Model.clip (sl5 D (ix3 0 r l) * hinvOf D (ix2 r 0)) := by
    pointwise [k0_pay19]
    rfl
  rw [h, sl5_apply]
theorem piece6 (D : Vec Ideal S9x512x384 .f32) (r : Fin 512) (l : Fin 384) :
    k0_pay20 (hinvOf D) (sl6 D) (ix2 r l) = Model.clip (D (ix3 6 r l) * hinvOf D (ix2 r 0)) := by
  have h : k0_pay20 (hinvOf D) (sl6 D) (ix2 r l) = Model.clip (sl6 D (ix3 0 r l) * hinvOf D (ix2 r 0)) := by
    pointwise [k0_pay20]
    rfl
  rw [h, sl6_apply]
theorem piece7 (D : Vec Ideal S9x512x384 .f32) (r : Fin 512) (l : Fin 384) :
    k0_pay23 (hinvOf D) (sl7 D) (ix2 r l) = Model.clip (D (ix3 7 r l) * hinvOf D (ix2 r 0)) := by
  have h : k0_pay23 (hinvOf D) (sl7 D) (ix2 r l) = Model.clip (sl7 D (ix3 0 r l) * hinvOf D (ix2 r 0)) := by
    pointwise [k0_pay23]
    rfl
  rw [h, sl7_apply]
theorem piece8 (D : Vec Ideal S9x512x384 .f32) (r : Fin 512) (l : Fin 384) :
    k0_pay24 (hinvOf D) (sl8 D) (ix2 r l) = Model.clip (D (ix3 8 r l) * hinvOf D (ix2 r 0)) := by
  have h : k0_pay24 (hinvOf D) (sl8 D) (ix2 r l) = Model.clip (sl8 D (ix3 0 r l) * hinvOf D (ix2 r 0)) := by
    pointwise [k0_pay24]
    rfl
  rw [h, sl8_apply]

theorem hcOf_eq (D : Vec Ideal S9x512x384 .f32) : hcOf D = codes D := by
  funext y
  unfold hcOf
  refine View.canon_apply_of_pieces (S := S512x3456) (codes D) _ ?_ y (View.cover_of_tiled (s := S512x3456) _ S512x384.size (by rfl) y)
  intro pc hpc
  simp only [List.mem_cons, List.not_mem_nil, or_false] at hpc
  rcases hpc with rfl | rfl | rfl | rfl | rfl | rfl | rfl | rfl | rfl
  · exact codes_at D 8 _ (piece8 D) 3072 rfl inb_S512x3456_S512x384_0_3072
  · exact codes_at D 7 _ (piece7 D) 2688 rfl inb_S512x3456_S512x384_0_2688
  · exact codes_at D 6 _ (piece6 D) 2304 rfl inb_S512x3456_S512x384_0_2304
  · exact codes_at D 5 _ (piece5 D) 1920 rfl inb_S512x3456_S512x384_0_1920
  · exact codes_at D 4 _ (piece4 D) 1536 rfl inb_S512x3456_S512x384_0_1536
  · exact codes_at D 3 _ (piece3 D) 1152 rfl inb_S512x3456_S512x384_0_1152
  · exact codes_at D 2 _ (piece2 D) 768 rfl inb_S512x3456_S512x384_0_768
  · exact codes_at D 1 _ (piece1 D) 384 rfl inb_S512x3456_S512x384_0_384
  · exact codes_at D 0 _ (piece0 D) 0 rfl inb_S512x3456_S512x384_0_0

end Cert.KernelIdeal.Pay

end
-- ==== Proof.GateDat.lean ====
module

public import proofs.«01_k».proof.Proof.Gen.KernelIdeal.Launch
public import proofs.«01_k».proof.Proof.Gen.KernelIdeal.Points
public import proofs.«01_k».proof.Proof.GateNames

@[expose] public section

set_option maxRecDepth 16384

noncomputable section

namespace Cert.KernelIdeal.Gate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the gate/up pipeline

`V` is what every buffer holds when the pipeline is entered.  A point's number is `9 * r + n` at row block `r` and
column block `n`. -/

variable (V : (c : Dev nD) → (b : Ref sig .tc) → Buf (Elt F) ((c : Thread nD τ).loc b))

/-- The part of window `w`'s array that point `t` works on. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem lt36 (t : Fin cfg0.N) : t.val < 36 := lt_of_lt_of_eq t.isLt N_0

/-- The point of the given number. -/
def pt (n : ℕ) (h : n < 36) : Fin cfg0.N := ⟨n, lt_of_lt_of_eq h N_0.symm⟩

/-- The slice of the activations that point `s` computes. -/
def hAt (c : Dev nD) (s : Fin cfg0.N) : Vec F S1x512x384 .f32 :=
  k0_pay22 (xcOf (iblk V c 0 s)) (xsOf (iblk V c 0 s)) (iblk V c 1 s) (iblk V c 2 s) (iblk V c 3 s) (iblk V c 4 s)

/-- An index within a slice. -/
def inSlice (y : S9x512x384.Idx) : S1x512x384.Idx := fun a => match a with
  | 0 => ⟨0, by decide⟩
  | 1 => ⟨(y 1).val, (y 1).isLt⟩
  | 2 => ⟨(y 2).val, (y 2).isLt⟩

/-- All nine slices of the row block of point `t`. -/
def Dfull (c : Dev nD) (t : Fin cfg0.N) : Vec F S9x512x384 .f32 := fun y =>
  hAt V c (pt (9 * (t.val / 9) + (y 0).val) (by have h1 := lt36 t; have h2 : (y 0).val < 9 := (y 0).isLt; omega)) (inSlice y)

/-- Slice `s` of kept activations. -/
abbrev sliceOf (D : Vec F S9x512x384 .f32) (s : Fin cfg0.N) : Vec F S1x512x384 .f32 :=
  VecWindow.window (s := S9x512x384) D (k0_off1 (grid0.coords s)) S1x512x384.size (k0_off1_inb (grid0.coords s))

/-- Before point `k` the kept activations hold the slices the earlier points of the same row block computed. -/
def Kept (c : Dev nD) (k : ℕ) (D : Vec F S9x512x384 .f32) : Prop :=
  ∀ s : Fin cfg0.N, s.val < k → k ≤ s.val / 9 * 9 + 9 → sliceOf D s = hAt V c s

theorem off_val : ∀ t : Fin grid0.N, k0_off1 (grid0.coords t) 0 = t.val % 9 := by decide +kernel
theorem cond1_iff : ∀ t : Fin grid0.N, k0_cond1 (grid0.coords t) = 1#1 ↔ t.val % 9 = 0 := by decide +kernel
theorem cond2_iff : ∀ t : Fin grid0.N, k0_cond2 (grid0.coords t) = 1#1 ↔ t.val % 9 = 8 := by decide +kernel

theorem kept_zero (c : Dev nD) (D : Vec F S9x512x384 .f32) : Kept V c 0 D := fun _ h => absurd h (Nat.not_lt_zero _)

/-- Storing point `t`'s slice keeps the earlier ones. -/
theorem kept_succ (c : Dev nD) (t : Fin cfg0.N) (D : Vec F S9x512x384 .f32) (h : Kept V c t.val D) :
    Kept V c (t.val + 1) (putAt (grid0.coords t) D (hAt V c t)) := by
  intro s hs hk
  by_cases e : s = t
  · subst e; exact VecWindow.window_put_same _ _ _ _ _
  · have hne : s.val ≠ t.val := fun he => e (Fin.ext he)
    have hlt : s.val < t.val := by omega
    refine (VecWindow.window_put_of_disjoint _ _ _ _ _ _ _ (0 : Fin 3) ?_).trans (h s hlt (by omega))
    rw [off_val t, off_val s]
    show s.val % 9 + 1 ≤ t.val % 9 ∨ t.val % 9 + 1 ≤ s.val % 9
    omega

/-- After the last point of a row block all nine slices are there. -/
theorem kept_full (c : Dev nD) (t : Fin cfg0.N) (h8 : t.val % 9 = 8) (D : Vec F S9x512x384 .f32) (h : Kept V c (t.val + 1) D) :
    D = Dfull V c t := by
  funext y
  have h1 := lt36 t
  have h2 : (y 0).val < 9 := (y 0).isLt
  have hb : 9 * (t.val / 9) + (y 0).val < 36 := by omega
  have hs := congrFun (h (pt (9 * (t.val / 9) + (y 0).val) hb) (by show 9 * (t.val / 9) + (y 0).val < t.val + 1; omega)
    (by show t.val + 1 ≤ (9 * (t.val / 9) + (y 0).val) / 9 * 9 + 9; omega)) (inSlice y)
  refine Eq.trans (congrArg D ?_) hs
  funext a
  refine Fin.ext ?_
  fin_cases a
  · show (y 0).val = k0_off1 (grid0.coords (pt (9 * (t.val / 9) + (y 0).val) hb)) 0 + 1 * 0
    rw [off_val]; show (y 0).val = (9 * (t.val / 9) + (y 0).val) % 9 + 1 * 0; omega
  · show (y 1).val = 0 + 1 * (y 1).val; omega
  · show (y 2).val = 0 + 1 * (y 2).val; omega

/-- The buffers of the other pipeline, untouched here. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What holds before point `k`: the kept activations as `Kept` says. -/
def PhiK (c : Dev nD) (k : ℕ) : sProp 𝕄 :=
  iprop((∃ D, ⌜Kept V c k D⌝ ∗ owns (c : Thread nD τ) (Memref.whole cc0_scratch0) fullShare D) ∗ others c)

/-- The pipeline's proof data. -/
def gdat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => xcOf (iblk V c 0 t)
    | ⟨6, _⟩ => xsOf (iblk V c 0 t)
    | ⟨7, _⟩ => hcOf (Dfull V c t)
    | ⟨8, _⟩ => hsOf (Dfull V c t)
  Φ k := PhiK V c k.val
  q w := Pipeline.shareOf spec0 w
  owed _ := 0

theorem A_eq (c : Dev nD) (w : Fin cfg0.W) : (gdat V c).A w = V c (Pipeline.arrRef spec0 w) := by dsimp only [gdat]

theorem after_0 (c : Dev nD) (t : Fin cfg0.N) : (gdat V c).after 0 t = iblk V c 0 t := by dsimp only [gdat]
theorem after_1 (c : Dev nD) (t : Fin cfg0.N) : (gdat V c).after 1 t = iblk V c 1 t := by dsimp only [gdat]
theorem after_2 (c : Dev nD) (t : Fin cfg0.N) : (gdat V c).after 2 t = iblk V c 2 t := by dsimp only [gdat]
theorem after_3 (c : Dev nD) (t : Fin cfg0.N) : (gdat V c).after 3 t = iblk V c 3 t := by dsimp only [gdat]
theorem after_4 (c : Dev nD) (t : Fin cfg0.N) : (gdat V c).after 4 t = iblk V c 4 t := by dsimp only [gdat]
theorem after_5 (c : Dev nD) (t : Fin cfg0.N) : (gdat V c).after 5 t = xcOf (iblk V c 0 t) := by dsimp only [gdat]
theorem after_6 (c : Dev nD) (t : Fin cfg0.N) : (gdat V c).after 6 t = xsOf (iblk V c 0 t) := by dsimp only [gdat]
theorem after_7 (c : Dev nD) (t : Fin cfg0.N) : (gdat V c).after 7 t = hcOf (Dfull V c t) := by dsimp only [gdat]
theorem after_8 (c : Dev nD) (t : Fin cfg0.N) : (gdat V c).after 8 t = hsOf (Dfull V c t) := by dsimp only [gdat]

/-! ## What the body finds in the windows' staging buffers -/

theorem before_0 (c : Dev nD) (t : Fin cfg0.N) (d) : (gdat V c).before 0 t d = iblk V c 0 t :=
  ((gdat V c).before_in_eq_fetched 0 rfl (fun _ => rfl) (fun _ _ _ => rfl) (fun t => by rw [after_0]; unfold Dat.blockOf iblk; rw [A_eq]; try rfl) t d).trans (by unfold Dat.fetched Dat.blockOf iblk; rw [A_eq]; try rfl)
theorem before_1 (c : Dev nD) (t : Fin cfg0.N) (d) : (gdat V c).before 1 t d = iblk V c 1 t :=
  ((gdat V c).before_in_eq_fetched 1 rfl (fun _ => rfl) (fun _ _ _ => rfl) (fun t => by rw [after_1]; unfold Dat.blockOf iblk; rw [A_eq]; try rfl) t d).trans (by unfold Dat.fetched Dat.blockOf iblk; rw [A_eq]; try rfl)
theorem before_2 (c : Dev nD) (t : Fin cfg0.N) (d) : (gdat V c).before 2 t d = iblk V c 2 t :=
  ((gdat V c).before_in_eq_fetched 2 rfl (fun _ => rfl) (fun _ _ _ => rfl) (fun t => by rw [after_2]; unfold Dat.blockOf iblk; rw [A_eq]; try rfl) t d).trans (by unfold Dat.fetched Dat.blockOf iblk; rw [A_eq]; try rfl)
theorem before_3 (c : Dev nD) (t : Fin cfg0.N) (d) : (gdat V c).before 3 t d = iblk V c 3 t :=
  ((gdat V c).before_in_eq_fetched 3 rfl (fun _ => rfl) (fun _ _ _ => rfl) (fun t => by rw [after_3]; unfold Dat.blockOf iblk; rw [A_eq]; try rfl) t d).trans (by unfold Dat.fetched Dat.blockOf iblk; rw [A_eq]; try rfl)
theorem before_4 (c : Dev nD) (t : Fin cfg0.N) (d) : (gdat V c).before 4 t d = iblk V c 4 t :=
  ((gdat V c).before_in_eq_fetched 4 rfl (fun _ => rfl) (fun _ _ _ => rfl) (fun t => by rw [after_4]; unfold Dat.blockOf iblk; rw [A_eq]; try rfl) t d).trans (by unfold Dat.fetched Dat.blockOf iblk; rw [A_eq]; try rfl)

/-- The point before. -/
abbrev prev (t : Fin cfg0.N) : Fin cfg0.N := ⟨t.val - 1, Nat.lt_of_le_of_lt (Nat.sub_le _ _) t.isLt⟩

/-- Within a row block the rows of `x` stay the same. -/
theorem iblk_prev (c : Dev nD) (t : Fin cfg0.N) (h : t.val % 9 ≠ 0) : iblk V c 0 (prev t) = iblk V c 0 t := by
  have hf : (cfg0.win 0).fetch t = false := Bool.eq_false_iff.mpr fun e => h ((fetch0_0 t).mp e)
  rw [← before_0 V c t (iblk V c 0 t), (gdat V c).before_unfetched_in 0 rfl t hf (fun _ => rfl)]
  unfold Dat.kept
  rw [after_0]; rfl

theorem idle_5 (t : Fin cfg0.N) (h : t.val % 9 ≠ 0) : cfg0.idle 5 (cfg0.grid.coords t) = true := by
  show (!(k0_cond1 (grid0.coords t) == 1#1)) = true
  simpa using fun e => h ((cond1_iff t).mp e)
theorem live_5 (t : Fin cfg0.N) (h : t.val % 9 = 0) : cfg0.idle 5 (cfg0.grid.coords t) = false := by
  show (!(k0_cond1 (grid0.coords t) == 1#1)) = false
  simpa using (cond1_iff t).mpr h
theorem idle_7 (t : Fin cfg0.N) (h : t.val % 9 ≠ 8) : cfg0.idle 7 (cfg0.grid.coords t) = true := by
  show (!(k0_cond2 (grid0.coords t) == 1#1)) = true
  simpa using fun e => h ((cond2_iff t).mp e)
theorem live_7 (t : Fin cfg0.N) (h : t.val % 9 = 8) : cfg0.idle 7 (cfg0.grid.coords t) = false := by
  show (!(k0_cond2 (grid0.coords t) == 1#1)) = false
  simpa using (cond2_iff t).mpr h

/-- After the first point of a row block the codes of `x` are kept to its end. -/
theorem before_5 (c : Dev nD) (d) : ∀ (n : ℕ) (hn : n < cfg0.N), n % 9 ≠ 0 → (gdat V c).before 5 ⟨n, hn⟩ d = xcOf (iblk V c 0 ⟨n, hn⟩) := by
  intro n
  induction n with
  | zero => intro _ h; exact absurd rfl h
  | succ n ih =>
    intro hn h
    have hf : (cfg0.win 5).flush (prev ⟨n + 1, hn⟩) = false := Bool.eq_false_iff.mpr fun e => by
      have := (flush0_5 _).mp e
      have e' : n % 9 = 8 := this
      omega
    rw [(gdat V c).before_of_pos 5 ⟨n + 1, hn⟩ (Nat.succ_ne_zero n) ((cfg0.win 5).fetch_out rfl _), hf, if_neg Bool.false_ne_true, ← iblk_prev V c ⟨n + 1, hn⟩ h]
    unfold Dat.left
    by_cases h0 : n % 9 = 0
    · rw [live_5 (prev ⟨n + 1, hn⟩) h0]
      show (gdat V c).kept 5 _ d = _
      unfold Dat.kept
      rw [after_5]; rfl
    · rw [idle_5 (prev ⟨n + 1, hn⟩) h0]
      exact ih _ h0

/-- And its scales. -/
theorem before_6 (c : Dev nD) (d) : ∀ (n : ℕ) (hn : n < cfg0.N), n % 9 ≠ 0 → (gdat V c).before 6 ⟨n, hn⟩ d = xsOf (iblk V c 0 ⟨n, hn⟩) := by
  intro n
  induction n with
  | zero => intro _ h; exact absurd rfl h
  | succ n ih =>
    intro hn h
    have hf : (cfg0.win 6).flush (prev ⟨n + 1, hn⟩) = false := Bool.eq_false_iff.mpr fun e => by
      have := (flush0_6 _).mp e
      have e' : n % 9 = 8 := this
      omega
    rw [(gdat V c).before_of_pos 6 ⟨n + 1, hn⟩ (Nat.succ_ne_zero n) ((cfg0.win 6).fetch_out rfl _), hf, if_neg Bool.false_ne_true, ← iblk_prev V c ⟨n + 1, hn⟩ h]
    unfold Dat.left
    by_cases h0 : n % 9 = 0
    · rw [show cfg0.idle 6 (cfg0.grid.coords (prev ⟨n + 1, hn⟩)) = false from live_5 (prev ⟨n + 1, hn⟩) h0]
      show (gdat V c).kept 6 _ d = _
      unfold Dat.kept
      rw [after_6]; rfl
    · rw [show cfg0.idle 6 (cfg0.grid.coords (prev ⟨n + 1, hn⟩)) = true from idle_5 (prev ⟨n + 1, hn⟩) h0]
      exact ih _ h0

end Cert.KernelIdeal.Gate

end
-- ==== Proof.GateRunA.lean ====
module

public import proofs.«01_k».proof.Proof.Gen.KernelIdeal.Skeleton
public import Idealize.ShloMosaic.Lib.Pipeline.Kit
public import Idealize.ShloMosaic.Lib.Pipeline.Value
public import Idealize.ShloMosaic.Lib.VecWindow
public import Idealize.ShloMosaic.Lib.Pipeline.FrameBody
public import Idealize.ShloMosaic.Lib.Tactic
public import proofs.«01_k».proof.Proof.GateNames

@[expose] public section

set_option maxRecDepth 16384

noncomputable section

namespace Cert.KernelIdeal.Gate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first point of a row of column blocks: the codes and the scales of `x`, and the first slice of the activations. -/
theorem runA (c : Dev nD) (i : grid0.Coords) (arg2 : Memref sig .tc .vmem S512x5120 .bf16) (harg2 : arg2.IsWhole) (arg3 : Memref sig .tc .vmem S384x5120 .fp8e4m3) (harg3 : arg3.IsWhole) (arg4 : Memref sig .tc .vmem S384x5120 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x3456 .fp8e4m3) (harg9 : arg9.IsWhole) (arg10 : Memref sig .tc .vmem S512x1 .f32) (harg10 : arg10.IsWhole) (arg11 : Memref sig .tc .vmem S9x512x384 .f32) (harg11 : arg11.IsWhole)
    (hc0 : k0_cond1 i = 1#1) (hc1 : ¬ k0_cond2 i = 1#1)
    (x0 : Vec F S512x5120 .bf16) (x1 : Vec F S384x5120 .fp8e4m3) (x2 : Vec F S384x5120 .fp8e4m3) (x3 : Vec F S1x384 .f32) (x4 : Vec F S1x384 .f32)
    (y5 : Vec F S512x5120 .fp8e4m3) (y6 : Vec F S512x1 .f32) (y7 : Vec F S512x3456 .fp8e4m3) (y8 : Vec F S512x1 .f32) (D : Vec F S9x512x384 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare D
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (xcOf x0) ∗ owns (c : Thread nD τ) arg8 fullShare (xsOf x0) ∗ owns (c : Thread nD τ) arg9 fullShare y7 ∗ owns (c : Thread nD τ) arg10 fullShare y8 ∗ owns (c : Thread nD τ) arg11 fullShare (putAt i D (k0_pay22 (xcOf x0) (xsOf x0) x1 x2 x3 x4))) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
  intro E K
  simp only [cc0_gate_up_eq_skeleton]; unfold cc0_gate_up_skel
  simp only [k0_part6_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words; rw [View.read_writes_full, read_whole harg2]; rfl
  isplitl [H6]
  · iexists _; isplitr; swap; · iexact H6
    ipureintro
    sl_unfold_words; rw [View.read_writes_full, read_whole harg2]; rfl
  isplitl [H7]
  · iexists _; isplitr; swap; · iexact H7
    ipureintro
    exact harg9.read_unread _
  isplitl [H8]
  · iexists _; isplitr; swap; · iexact H8
    ipureintro
    exact harg10.read_unread _
  iexists _; isplitr; swap; · iexact HS
  ipureintro
  sl_unfold_words; rw [View.readCov_full, View.readCov_full, read_whole harg2, read_whole harg3, read_whole harg4, read_whole harg5, read_whole harg6]; exact read_putAt harg11 _ _ _ _

end Cert.KernelIdeal.Gate

end
-- ==== Proof.GateRunB.lean ====
module

public import proofs.«01_k».proof.Proof.Gen.KernelIdeal.Skeleton
public import Idealize.ShloMosaic.Lib.Pipeline.Kit
public import Idealize.ShloMosaic.Lib.Pipeline.Value
public import Idealize.ShloMosaic.Lib.VecWindow
public import Idealize.ShloMosaic.Lib.Pipeline.FrameBody
public import Idealize.ShloMosaic.Lib.Tactic
public import proofs.«01_k».proof.Proof.GateNames

@[expose] public section

set_option maxRecDepth 16384

noncomputable section

namespace Cert.KernelIdeal.Gate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- A point at neither end of its row of column blocks: one more slice of the activations, everything else as found. -/
theorem runB (c : Dev nD) (i : grid0.Coords) (arg2 : Memref sig .tc .vmem S512x5120 .bf16) (harg2 : arg2.IsWhole) (arg3 : Memref sig .tc .vmem S384x5120 .fp8e4m3) (harg3 : arg3.IsWhole) (arg4 : Memref sig .tc .vmem S384x5120 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x3456 .fp8e4m3) (harg9 : arg9.IsWhole) (arg10 : Memref sig .tc .vmem S512x1 .f32) (harg10 : arg10.IsWhole) (arg11 : Memref sig .tc .vmem S9x512x384 .f32) (harg11 : arg11.IsWhole)
    (hc0 : ¬ k0_cond1 i = 1#1) (hc1 : ¬ k0_cond2 i = 1#1)
    (x0 : Vec F S512x5120 .bf16) (x1 : Vec F S384x5120 .fp8e4m3) (x2 : Vec F S384x5120 .fp8e4m3) (x3 : Vec F S1x384 .f32) (x4 : Vec F S1x384 .f32)
    (y5 : Vec F S512x5120 .fp8e4m3) (y6 : Vec F S512x1 .f32) (y7 : Vec F S512x3456 .fp8e4m3) (y8 : Vec F S512x1 .f32) (D : Vec F S9x512x384 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare D
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare (putAt i D (k0_pay22 y5 y6 x1 x2 x3 x4))) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
  intro E K
  simp only [cc0_gate_up_eq_skeleton]; unfold cc0_gate_up_skel
  simp only [k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact harg7.read_unread _
  isplitl [H6]
  · iexists _; isplitr; swap; · iexact H6
    ipureintro
    exact harg8.read_unread _
  isplitl [H7]
  · iexists _; isplitr; swap; · iexact H7
    ipureintro
    exact harg9.read_unread _
  isplitl [H8]
  · iexists _; isplitr; swap; · iexact H8
    ipureintro
    exact harg10.read_unread _
  iexists _; isplitr; swap; · iexact HS
  ipureintro
  rw [read_whole harg7, read_whole harg8, read_whole harg3, read_whole harg4, read_whole harg5, read_whole harg6]; exact read_putAt harg11 _ _ _ _

end Cert.KernelIdeal.Gate

end
-- ==== Proof.GateRunC.lean ====
module

public import proofs.«01_k».proof.Proof.Gen.KernelIdeal.Skeleton
public import Idealize.ShloMosaic.Lib.Pipeline.Kit
public import Idealize.ShloMosaic.Lib.Pipeline.Value
public import Idealize.ShloMosaic.Lib.VecWindow
public import Idealize.ShloMosaic.Lib.Pipeline.FrameBody
public import Idealize.ShloMosaic.Lib.Tactic
public import Idealize.ShloMosaic.Lib.Pipeline.ValueKit.Tiles
public import proofs.«01_k».proof.Proof.GateNames

@[expose] public section

set_option maxRecDepth 16384

noncomputable section

namespace Cert.KernelIdeal.Gate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last point of a row of column blocks: the last slice of the activations, then their codes and their scales. -/
theorem runC (c : Dev nD) (i : grid0.Coords) (arg2 : Memref sig .tc .vmem S512x5120 .bf16) (harg2 : arg2.IsWhole) (arg3 : Memref sig .tc .vmem S384x5120 .fp8e4m3) (harg3 : arg3.IsWhole) (arg4 : Memref sig .tc .vmem S384x5120 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S512x5120 .fp8e4m3) (harg7 : arg7.IsWhole) (arg8 : Memref sig .tc .vmem S512x1 .f32) (harg8 : arg8.IsWhole) (arg9 : Memref sig .tc .vmem S512x3456 .fp8e4m3) (harg9 : arg9.IsWhole) (arg10 : Memref sig .tc .vmem S512x1 .f32) (harg10 : arg10.IsWhole) (arg11 : Memref sig .tc .vmem S9x512x384 .f32) (harg11 : arg11.IsWhole)
    (hc0 : ¬ k0_cond1 i = 1#1) (hc1 : k0_cond2 i = 1#1)
    (x0 : Vec F S512x5120 .bf16) (x1 : Vec F S384x5120 .fp8e4m3) (x2 : Vec F S384x5120 .fp8e4m3) (x3 : Vec F S1x384 .f32) (x4 : Vec F S1x384 .f32)
    (y5 : Vec F S512x5120 .fp8e4m3) (y6 : Vec F S512x1 .f32) (y7 : Vec F S512x3456 .fp8e4m3) (y8 : Vec F S512x1 .f32) (D : Vec F S9x512x384 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare D
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare (hcOf (putAt i D (k0_pay22 y5 y6 x1 x2 x3 x4))) ∗ owns (c : Thread nD τ) arg10 fullShare (hsOf (putAt i D (k0_pay22 y5 y6 x1 x2 x3 x4))) ∗ owns (c : Thread nD τ) arg11 fullShare (putAt i D (k0_pay22 y5 y6 x1 x2 x3 x4))) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
  intro E K
  simp only [cc0_gate_up_eq_skeleton]; unfold cc0_gate_up_skel
  simp only [k0_part6_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact harg7.read_unread _
  isplitl [H6]
  · iexists _; isplitr; swap; · iexact H6
    ipureintro
    exact harg8.read_unread _
  isplitl [H7]
  · iexists _; isplitr; swap; · iexact H7
    ipureintro
    sl_unfold_words; rw [read_whole harg7, read_whole harg8, read_whole harg3, read_whole harg4, read_whole harg5, read_whole harg6]
    generalize hW : arg11.view.writes (Elt F) (harg11.unread D) _ = W
    have hr : arg11.view.read (Elt F) W = putAt i D (k0_pay22 y5 y6 x1 x2 x3 x4) := by subst hW; exact read_putAt harg11 _ _ _ _
    rw [← hr]; exact View.read_writes_eq_canon _ _ _ (View.cover_of_tiled_head _ _ _ (by rfl))
  isplitl [H8]
  · iexists _; isplitr; swap; · iexact H8
    ipureintro
    sl_unfold_words; rw [read_whole harg7, read_whole harg8, read_whole harg3, read_whole harg4, read_whole harg5, read_whole harg6]
    generalize hW : arg11.view.writes (Elt F) (harg11.unread D) _ = W
    have hr : arg11.view.read (Elt F) W = putAt i D (k0_pay22 y5 y6 x1 x2 x3 x4) := by subst hW; exact read_putAt harg11 _ _ _ _
    rw [← hr, View.read_writes_full]; rfl
  iexists _; isplitr; swap; · iexact HS
  ipureintro
  sl_unfold_words; rw [read_whole harg7, read_whole harg8, read_whole harg3, read_whole harg4, read_whole harg5, read_whole harg6]; exact read_putAt harg11 _ _ _ _

end Cert.KernelIdeal.Gate

end
-- ==== Proof.GateBody.lean ====
module

public import proofs.«01_k».proof.Proof.GateDat
public import proofs.«01_k».proof.Proof.GateRunA
public import proofs.«01_k».proof.Proof.GateRunB
public import proofs.«01_k».proof.Proof.GateRunC

@[expose] public section

set_option maxRecDepth 16384

noncomputable section

namespace Cert.KernelIdeal.Gate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at every point of the gate/up pipeline -/

/-- What the body is called with at point `t`, -/
def bodyPre (c : Dev nD) (t : Fin cfg0.N) : sProp 𝕄 :=
  iprop((gdat V c).Φ t.castSucc ∗ (gdat V c).owesAt () t.castSucc
    ∗ (∃ d, owns (c : Thread nD τ) (st0_0 t) fullShare ((gdat V c).before 0 t d))
    ∗ (∃ d, owns (c : Thread nD τ) (st0_1 t) fullShare ((gdat V c).before 1 t d))
    ∗ (∃ d, owns (c : Thread nD τ) (st0_2 t) fullShare ((gdat V c).before 2 t d))
    ∗ (∃ d, owns (c : Thread nD τ) (st0_3 t) fullShare ((gdat V c).before 3 t d))
    ∗ (∃ d, owns (c : Thread nD τ) (st0_4 t) fullShare ((gdat V c).before 4 t d))
    ∗ (∃ d, owns (c : Thread nD τ) (st0_5 t) fullShare ((gdat V c).before 5 t d))
    ∗ (∃ d, owns (c : Thread nD τ) (st0_6 t) fullShare ((gdat V c).before 6 t d))
    ∗ (∃ d, owns (c : Thread nD τ) (st0_7 t) fullShare ((gdat V c).before 7 t d))
    ∗ (∃ d, owns (c : Thread nD τ) (st0_8 t) fullShare ((gdat V c).before 8 t d)))

/-- and what it returns. -/
def bodyPost (c : Dev nD) (t : Fin cfg0.N) : sProp 𝕄 :=
  iprop((gdat V c).Φ t.succ ∗ (gdat V c).owesAt () t.succ
    ∗ (gdat V c).leavesExact 0 t
    ∗ (gdat V c).leavesExact 1 t
    ∗ (gdat V c).leavesExact 2 t
    ∗ (gdat V c).leavesExact 3 t
    ∗ (gdat V c).leavesExact 4 t
    ∗ (gdat V c).leavesExact 5 t
    ∗ (gdat V c).leavesExact 6 t
    ∗ (gdat V c).leavesExact 7 t
    ∗ (gdat V c).leavesExact 8 t)

/-- Where the body writes a window, or the window is written back, its buffer is left at the proof data's contents. -/
theorem leaves_live (c : Dev nD) (w : Fin cfg0.W) (t : Fin cfg0.N) (h : cfg0.idle w (cfg0.grid.coords t) = false) :
    (gdat V c).leavesExact w t = owns (c : Thread nD τ) ((cfg0.win w).stage (cfg0.slots t w)) fullShare ((gdat V c).after w t) := by
  unfold Dat.leavesExact; rw [h]

theorem leaves_flush (c : Dev nD) (w : Fin cfg0.W) (t : Fin cfg0.N) (h : cfg0.idle w (cfg0.grid.coords t) = true) (hf : (cfg0.win w).flush t = true) :
    (gdat V c).leavesExact w t = owns (c : Thread nD τ) ((cfg0.win w).stage (cfg0.slots t w)) fullShare ((gdat V c).after w t) := by
  unfold Dat.leavesExact; rw [h, hf]

theorem leaves_idle (c : Dev nD) (w : Fin cfg0.W) (t : Fin cfg0.N) (h : cfg0.idle w (cfg0.grid.coords t) = true) (hf : (cfg0.win w).flush t = false) :
    (gdat V c).leavesExact w t = iprop(∃ d, owns (c : Thread nD τ) ((cfg0.win w).stage (cfg0.slots t w)) fullShare ((gdat V c).before w t d)) := by
  unfold Dat.leavesExact; rw [h, hf]

set_option maxHeartbeats 2400000 in
/-- The body at point `t` turns the one into the other: the three cases are the first, the last and the other points of
    a row block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (gdat V c).owesAt () t.succ = (gdat V c).owesAt () t.castSucc from rfl,
    show (gdat V c).Φ t.castSucc = PhiK V c t.val from rfl, show (gdat V c).Φ t.succ = PhiK V c (t.val + 1) from rfl,
    leaves_live V c 0 t rfl, leaves_live V c 1 t rfl, leaves_live V c 2 t rfl, leaves_live V c 3 t rfl, leaves_live V c 4 t rfl,
    after_0, after_1, after_2, after_3, after_4]
  unfold PhiK
  have hN : t.val < 36 := lt36 t
  by_cases h0 : t.val % 9 = 0
  · have h1 : t.val % 9 ≠ 8 := by omega
    rw [leaves_live V c 5 t (live_5 t h0), leaves_live V c 6 t (live_5 t h0), leaves_idle V c 7 t (idle_7 t h1) (Bool.eq_false_iff.mpr fun e => h1 ((flush0_7 t).mp e)), leaves_idle V c 8 t (idle_7 t h1) (Bool.eq_false_iff.mpr fun e => h1 ((flush0_8 t).mp e)), after_5, after_6]
    iintro ⟨⟨⟨%D, %hD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hK := kept_succ V c t D hD
    iapply (runA c (grid0.coords t) _ _ _ _ _ _ _ _ _ _ _ _ _ _ _ _ _ _ _ _ ((cond1_iff t).mpr h0) (fun h => h1 ((cond2_iff t).mp h)) (iblk V c 0 t) (iblk V c 1 t) (iblk V c 2 t) (iblk V c 3 t) (iblk V c 4 t) ((gdat V c).before 5 t d5) ((gdat V c).before 6 t d6) ((gdat V c).before 7 t d7) ((gdat V c).before 8 t d8) D Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · isplitl [HS]
      · iexists _; isplitr; swap; · iexact HS
        ipureintro; exact hK
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · by_cases h1 : t.val % 9 = 8
    · rw [leaves_flush V c 5 t (idle_5 t h0) ((flush0_5 t).mpr h1), leaves_flush V c 6 t (idle_5 t h0) ((flush0_6 t).mpr h1), leaves_live V c 7 t (live_7 t h1), leaves_live V c 8 t (live_7 t h1), after_5, after_6, after_7, after_8]
      iintro ⟨⟨⟨%D, %hD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have hK := kept_succ V c t D hD
      have e5 : (gdat V c).before 5 t d5 = xcOf (iblk V c 0 t) := before_5 V c d5 t.val t.isLt h0
      have e6 : (gdat V c).before 6 t d6 = xsOf (iblk V c 0 t) := before_6 V c d6 t.val t.isLt h0
      rw [e5, e6]
      iapply (runC c (grid0.coords t) _ _ _ _ _ _ _ _ _ _ _ _ _ _ _ _ _ _ _ _ (fun h => h0 ((cond1_iff t).mp h)) ((cond2_iff t).mpr h1) (iblk V c 0 t) (iblk V c 1 t) (iblk V c 2 t) (iblk V c 3 t) (iblk V c 4 t) (xcOf (iblk V c 0 t)) (xsOf (iblk V c 0 t)) ((gdat V c).before 7 t d7) ((gdat V c).before 8 t d8) D Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]
        · iexists _; isplitr; swap; · iexact HS
          ipureintro; exact hK
        iexact Hg
      isplitl [Ho]; · iexact Ho
      isplitl [H0]; · iexact H0
      isplitl [H1]; · iexact H1
      isplitl [H2]; · iexact H2
      isplitl [H3]; · iexact H3
      isplitl [H4]; · iexact H4
      rw [← kept_full V c t h1 _ hK]
      isplitl [H5]; · iexact H5
      isplitl [H6]; · iexact H6
      isplitl [H7]; · iexact H7
      iexact H8
    · rw [leaves_idle V c 5 t (idle_5 t h0) (Bool.eq_false_iff.mpr fun e => h1 ((flush0_5 t).mp e)), leaves_idle V c 6 t (idle_5 t h0) (Bool.eq_false_iff.mpr fun e => h1 ((flush0_6 t).mp e)), leaves_idle V c 7 t (idle_7 t h1) (Bool.eq_false_iff.mpr fun e => h1 ((flush0_7 t).mp e)), leaves_idle V c 8 t (idle_7 t h1) (Bool.eq_false_iff.mpr fun e => h1 ((flush0_8 t).mp e))]
      iintro ⟨⟨⟨%D, %hD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have hK := kept_succ V c t D hD
      have e5 : (gdat V c).before 5 t d5 = xcOf (iblk V c 0 t) := before_5 V c d5 t.val t.isLt h0
      have e6 : (gdat V c).before 6 t d6 = xsOf (iblk V c 0 t) := before_6 V c d6 t.val t.isLt h0
      iapply (runB c (grid0.coords t) _ _ _ _ _ _ _ _ _ _ _ _ _ _ _ _ _ _ _ _ (fun h => h0 ((cond1_iff t).mp h)) (fun h => h1 ((cond2_iff t).mp h)) (iblk V c 0 t) (iblk V c 1 t) (iblk V c 2 t) (iblk V c 3 t) (iblk V c 4 t) ((gdat V c).before 5 t d5) ((gdat V c).before 6 t d6) ((gdat V c).before 7 t d7) ((gdat V c).before 8 t d8) D Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      rw [e5, e6]
      isplitl [HS Hg]
      · isplitl [HS]
        · iexists _; isplitr; swap; · iexact HS
          ipureintro; exact hK
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; rw [e5]; iexact H5
      isplitl [H6]; · iexists d6; rw [e6]; iexact H6
      isplitl [H7]; · iexists _; iexact H7
      iexists _; iexact H8

theorem defs₀_row (t : Fin cfg0.N) : defs₀ (F := F) .tc cfg0.body (cfg0.bodyArgs t (cfg0.slots t)) = bodyAt0 t := by
  unfold defs₀; rw [Defs.onTc_tc]

/-- The body obligation of the gate/up pipeline. -/
theorem body_obligation (c : Dev nD) : BodyObligation (gdat V c) defs₀ Variants.none () Set.univ := fun t => by
  rw [bigSep_W0, bigSep_W0, defs₀_row]
  exact triple_restated (sound_body V c t) rfl .rfl fun _ => .rfl

end Cert.KernelIdeal.Gate

end
-- ==== Proof.DownDat.lean ====
module

public import proofs.«01_k».proof.Proof.Gen.KernelIdeal.Launch
public import proofs.«01_k».proof.Proof.Gen.KernelIdeal.Points
public import proofs.«01_k».proof.Proof.GateNames

@[expose] public section

set_option maxRecDepth 16384

noncomputable section

namespace Cert.KernelIdeal.Down

open Cert.KernelIdeal.Gen
open Cert.KernelIdeal.Gate (read_whole)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the down projection's pipeline

`V` is what every buffer holds when the pipeline is entered.  Every point reads its four blocks and writes one block of
the result. -/

set_option maxHeartbeats 1000000 in
/-- The body: the result's block becomes the payload of the four blocks read. -/
theorem run (c : Dev nD) (i : grid1.Coords) (arg2 : Memref sig .tc .vmem S1024x3456 .fp8e4m3) (harg2 : arg2.IsWhole) (arg3 : Memref sig .tc .vmem S1024x1 .f32) (harg3 : arg3.IsWhole) (arg4 : Memref sig .tc .vmem S512x3456 .fp8e4m3) (harg4 : arg4.IsWhole) (arg5 : Memref sig .tc .vmem S1x512 .f32) (harg5 : arg5.IsWhole) (arg6 : Memref sig .tc .vmem S1024x512 .bf16) (harg6 : arg6.IsWhole)
    (x0 : Vec F S1024x3456 .fp8e4m3) (x1 : Vec F S1024x1 .f32) (x2 : Vec F S512x3456 .fp8e4m3) (x3 : Vec F S1x512 .f32) (y4 : Vec F S1024x512 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay1 x0 x2 x1 x3)) -∗ K ⟨⟩))
      ⊢ wp frame (wpE (defs₀ (F := F)) Variants.none c none) E (cc1_down i arg2 harg2 arg3 harg3 arg4 harg4 arg5 harg5 arg6 harg6) K := by
  intro E K
  simp only [cc1_down_eq_skeleton]; unfold cc1_down_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0
  obtain rfl := harg3.eq_unread hf1
  obtain rfl := harg4.eq_unread hf2
  obtain rfl := harg5.eq_unread hf3
  obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H4
  ipureintro
  rw [read_whole harg2, read_whole harg3, read_whole harg4, read_whole harg5]
  exact View.read_writes_full _ _ _ _ _

variable (V : (c : Dev nD) → (b : Ref sig .tc) → Buf (Elt F) ((c : Thread nD τ).loc b))

/-- The part of window `w`'s array that point `t` works on. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pipeline's proof data. -/
def ddat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay1 (iblk V c 0 t) (iblk V c 2 t) (iblk V c 1 t) (iblk V c 3 t)
  Φ _ := Pipeline.scopedRest spec1 c
  q w := Pipeline.shareOf spec1 w
  owed _ := 0

theorem A_eq (c : Dev nD) (w : Fin cfg1.W) : (ddat V c).A w = V c (Pipeline.arrRef spec1 w) := by dsimp only [ddat]

theorem after_0 (c : Dev nD) (t : Fin cfg1.N) : (ddat V c).after 0 t = iblk V c 0 t := by dsimp only [ddat]
theorem after_1 (c : Dev nD) (t : Fin cfg1.N) : (ddat V c).after 1 t = iblk V c 1 t := by dsimp only [ddat]
theorem after_2 (c : Dev nD) (t : Fin cfg1.N) : (ddat V c).after 2 t = iblk V c 2 t := by dsimp only [ddat]
theorem after_3 (c : Dev nD) (t : Fin cfg1.N) : (ddat V c).after 3 t = iblk V c 3 t := by dsimp only [ddat]
theorem after_4 (c : Dev nD) (t : Fin cfg1.N) : (ddat V c).after 4 t = k1_pay1 (iblk V c 0 t) (iblk V c 2 t) (iblk V c 1 t) (iblk V c 3 t) := by dsimp only [ddat]

theorem before_0 (c : Dev nD) (t : Fin cfg1.N) (d) : (ddat V c).before 0 t d = iblk V c 0 t :=
  ((ddat V c).before_in_eq_fetched 0 rfl (fun _ => rfl) (fun _ _ _ => rfl) (fun t => by rw [after_0]; unfold Dat.blockOf iblk; rw [A_eq]; try rfl) t d).trans (by unfold Dat.fetched Dat.blockOf iblk; rw [A_eq]; try rfl)
theorem before_1 (c : Dev nD) (t : Fin cfg1.N) (d) : (ddat V c).before 1 t d = iblk V c 1 t :=
  ((ddat V c).before_in_eq_fetched 1 rfl (fun _ => rfl) (fun _ _ _ => rfl) (fun t => by rw [after_1]; unfold Dat.blockOf iblk; rw [A_eq]; try rfl) t d).trans (by unfold Dat.fetched Dat.blockOf iblk; rw [A_eq]; try rfl)
theorem before_2 (c : Dev nD) (t : Fin cfg1.N) (d) : (ddat V c).before 2 t d = iblk V c 2 t :=
  ((ddat V c).before_in_eq_fetched 2 rfl (fun _ => rfl) (fun _ _ _ => rfl) (fun t => by rw [after_2]; unfold Dat.blockOf iblk; rw [A_eq]; try rfl) t d).trans (by unfold Dat.fetched Dat.blockOf iblk; rw [A_eq]; try rfl)
theorem before_3 (c : Dev nD) (t : Fin cfg1.N) (d) : (ddat V c).before 3 t d = iblk V c 3 t :=
  ((ddat V c).before_in_eq_fetched 3 rfl (fun _ => rfl) (fun _ _ _ => rfl) (fun t => by rw [after_3]; unfold Dat.blockOf iblk; rw [A_eq]; try rfl) t d).trans (by unfold Dat.fetched Dat.blockOf iblk; rw [A_eq]; try rfl)

/-- What the body is called with at point `t`, -/
def bodyPre (c : Dev nD) (t : Fin cfg1.N) : sProp 𝕄 :=
  iprop((ddat V c).Φ t.castSucc ∗ (ddat V c).owesAt () t.castSucc
    ∗ (∃ d, owns (c : Thread nD τ) (st1_0 t) fullShare ((ddat V c).before 0 t d))
    ∗ (∃ d, owns (c : Thread nD τ) (st1_1 t) fullShare ((ddat V c).before 1 t d))
    ∗ (∃ d, owns (c : Thread nD τ) (st1_2 t) fullShare ((ddat V c).before 2 t d))
    ∗ (∃ d, owns (c : Thread nD τ) (st1_3 t) fullShare ((ddat V c).before 3 t d))
    ∗ (∃ d, owns (c : Thread nD τ) (st1_4 t) fullShare ((ddat V c).before 4 t d)))

/-- and what it returns. -/
def bodyPost (c : Dev nD) (t : Fin cfg1.N) : sProp 𝕄 :=
  iprop((ddat V c).Φ t.succ ∗ (ddat V c).owesAt () t.succ
    ∗ (ddat V c).leavesExact 0 t
    ∗ (ddat V c).leavesExact 1 t
    ∗ (ddat V c).leavesExact 2 t
    ∗ (ddat V c).leavesExact 3 t
    ∗ (ddat V c).leavesExact 4 t)

theorem leaves_live (c : Dev nD) (w : Fin cfg1.W) (t : Fin cfg1.N) (h : cfg1.idle w (cfg1.grid.coords t) = false) :
    (ddat V c).leavesExact w t = owns (c : Thread nD τ) ((cfg1.win w).stage (cfg1.slots t w)) fullShare ((ddat V c).after w t) := by
  unfold Dat.leavesExact; rw [h]

/-- The body at point `t` turns the one into the other. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (ddat V c).owesAt () t.succ = (ddat V c).owesAt () t.castSucc from rfl,
    show (ddat V c).Φ t.succ = (ddat V c).Φ t.castSucc from rfl,
    leaves_live V c 0 t rfl, leaves_live V c 1 t rfl, leaves_live V c 2 t rfl, leaves_live V c 3 t rfl, leaves_live V c 4 t rfl,
    after_0, after_1, after_2, after_3, after_4]
  iintro ⟨HΦ, Ho, ⟨%d0, H0⟩, ⟨%d1, H1⟩, ⟨%d2, H2⟩, ⟨%d3, H3⟩, ⟨%d4, H4⟩⟩
  iapply (run c (grid1.coords t) _ _ _ _ _ _ _ _ _ _ (iblk V c 0 t) (iblk V c 1 t) (iblk V c 2 t) (iblk V c 3 t) ((ddat V c).before 4 t d4) Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg1.N) : defs₀ (F := F) .tc cfg1.body (cfg1.bodyArgs t (cfg1.slots t)) = bodyAt1 t := by
  unfold defs₀; rw [Defs.onTc_tc]

/-- The body obligation of the down projection's pipeline. -/
theorem body_obligation (c : Dev nD) : BodyObligation (ddat V c) defs₀ Variants.none () Set.univ := fun t => by
  rw [bigSep_W1, bigSep_W1, defs₀_row]
  exact triple_restated (sound_body V c t) rfl .rfl fun _ => .rfl

end Cert.KernelIdeal.Down

end
-- ==== Proof.Run.lean ====
module

public import proofs.«01_k».proof.Proof.Gen.KernelIdeal.Regions
public import Idealize.ShloMosaic.Lib.Pipeline.RegionsLoop
public import proofs.«01_k».proof.Proof.GateBody
public import proofs.«01_k».proof.Proof.DownDat

@[expose] public section

set_option maxRecDepth 16384

noncomputable section

namespace Cert.KernelIdeal.Run

open Cert.KernelIdeal.Gen
open Cert.KernelIdeal.Gate (gdat)
open Cert.KernelIdeal.Down (ddat)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program's run, naming what every buffer holds at the end

Host reshapes, the gate/up pipeline, one more host reshape, the down projection's pipeline. -/

/-- What the gate/up pipeline finds. -/
abbrev Va (c : Dev nD) (b : Ref sig .tc) : Buf (Elt F) ((c : Thread nD τ).loc b) := V1 m c b

/-- What each core's buffers hold after the gate/up pipeline. -/
def W2 (c : Dev nD) : Valuation τ sig (Elt F) :=
  Function.update (Function.update (Function.update (Function.update (V1 m c) main_v3_0 ((gdat (Va m) c).arrAt 5 cfg0.N))
    main_v3_1 ((gdat (Va m) c).arrAt 6 cfg0.N)) main_v3_2 ((gdat (Va m) c).arrAt 7 cfg0.N)) main_v3_3 ((gdat (Va m) c).arrAt 8 cfg0.N)

/-- What the down projection's pipeline finds. -/
def Vb (c : Dev nD) (b : Ref sig .tc) : Buf (Elt F) ((c : Thread nD τ).loc b) := StableHlo.after hostOps1 (W2 m c) b

/-- What the two pipelines leave in the arrays they write. -/
def outs : Outs (F := F) := fun J r c =>
  if J = 2 then W2 m c r else Function.update (StableHlo.after hostOps1 (W2 m c)) (main_v5 : DevRef τ sig) ((ddat (Vb m) c).arrAt 4 cfg1.N) r

theorem ne_of (r s : Ref sig .tc) (h : r ≠ s) : (Proc.devRef .tc r : DevRef τ sig) ≠ Proc.devRef .tc s := StableHlo.devRef_ne_of_ne h

theorem W2_0 (c : Dev nD) : W2 m c main_v3_0 = (gdat (Va m) c).arrAt 5 cfg0.N := by
  unfold W2
  rw [Function.update_of_ne (ne_of _ _ (by decide)), Function.update_of_ne (ne_of _ _ (by decide)), Function.update_of_ne (ne_of _ _ (by decide)), Function.update_self]
theorem W2_1 (c : Dev nD) : W2 m c main_v3_1 = (gdat (Va m) c).arrAt 6 cfg0.N := by
  unfold W2
  rw [Function.update_of_ne (ne_of _ _ (by decide)), Function.update_of_ne (ne_of _ _ (by decide)), Function.update_self]
theorem W2_2 (c : Dev nD) : W2 m c main_v3_2 = (gdat (Va m) c).arrAt 7 cfg0.N := by
  unfold W2
  rw [Function.update_of_ne (ne_of _ _ (by decide)), Function.update_self]
theorem W2_3 (c : Dev nD) : W2 m c main_v3_3 = (gdat (Va m) c).arrAt 8 cfg0.N := by
  unfold W2
  rw [Function.update_self]

theorem outs_v3 (r : Ref sig .tc) (c : Dev nD) : outs m 2 r c = W2 m c r := by unfold outs; rw [if_pos rfl]
theorem outs_v5 (c : Dev nD) : outs m 4 main_v5 c = (ddat (Vb m) c).arrAt 4 cfg1.N := by
  unfold outs; rw [if_neg (by decide), Function.update_self]

theorem V2_eq (c : Dev nD) : V2 m (outs m) c = W2 m c := by
  show Function.update (Function.update (Function.update (Function.update (V1 m c) main_v3_0 (outs m 2 main_v3_0 c)) main_v3_1 (outs m 2 main_v3_1 c)) main_v3_2 (outs m 2 main_v3_2 c)) main_v3_3 (outs m 2 main_v3_3 c) = W2 m c
  rw [outs_v3, outs_v3, outs_v3, outs_v3, W2_0, W2_1, W2_2, W2_3]; rfl

theorem V3_eq (c : Dev nD) (b : Ref sig .tc) : V3 m (outs m) c b = Vb m c b := by
  show StableHlo.after hostOps1 (V2 m (outs m) c) b = _
  rw [V2_eq]; rfl

/-- Both pipelines' proof data. -/
def dats : (p : Fin 2) → (c : Dev nD) → Dat τ (Elt F) Unit ℕ (UR sig nD τ) ℕ (cfgs p) c
  | 0 => gdat (Va m)
  | 1 => ddat (Vb m)

/-- What rides along: the core owes nothing. -/
def R (c : Dev nD) : sProp 𝕄 := iprop(∃ W, owes (c : Thread nD τ) (0 : CellTallies nD τ sig Unit) W)

def L : GSem nD τ sig → Finset Unit := fun _ => ∅
def lv : GSem nD τ sig → Unit → ℕ := fun _ _ => 0

theorem hF0 (c : Dev nD) : ∀ w : Fin 9, (gdat (Va m) c).arrAt w cfg0.N = V2 m (outs m) c (Pipeline.arrRef spec0 w)
  | 0 => ((gdat (Va m) c).arrAt_in 0 rfl _).trans ((Gate.A_eq (Va m) c 0).trans (V2_of m (outs m) c main_v2 (by decide)).symm)
  | 1 => ((gdat (Va m) c).arrAt_in 1 rfl _).trans ((Gate.A_eq (Va m) c 1).trans (V2_of m (outs m) c main_v0 (by decide)).symm)
  | 2 => ((gdat (Va m) c).arrAt_in 2 rfl _).trans ((Gate.A_eq (Va m) c 2).trans (V2_of m (outs m) c main_v0 (by decide)).symm)
  | 3 => ((gdat (Va m) c).arrAt_in 3 rfl _).trans ((Gate.A_eq (Va m) c 3).trans (V2_of m (outs m) c main_v1 (by decide)).symm)
  | 4 => ((gdat (Va m) c).arrAt_in 4 rfl _).trans ((Gate.A_eq (Va m) c 4).trans (V2_of m (outs m) c main_v1 (by decide)).symm)
  | 5 => by rw [V2_eq]; exact (W2_0 m c).symm
  | 6 => by rw [V2_eq]; exact (W2_1 m c).symm
  | 7 => by rw [V2_eq]; exact (W2_2 m c).symm
  | 8 => by rw [V2_eq]; exact (W2_3 m c).symm

theorem hF1 (c : Dev nD) : ∀ w : Fin 5, (ddat (Vb m) c).arrAt w cfg1.N = V4 m (outs m) c (Pipeline.arrRef spec1 w)
  | 0 => ((ddat (Vb m) c).arrAt_in 0 rfl _).trans ((Down.A_eq (Vb m) c 0).trans ((V4_of m (outs m) c main_v3_2 (by decide)).trans (V3_eq m c _)).symm)
  | 1 => ((ddat (Vb m) c).arrAt_in 1 rfl _).trans ((Down.A_eq (Vb m) c 1).trans ((V4_of m (outs m) c main_v3_3 (by decide)).trans (V3_eq m c _)).symm)
  | 2 => ((ddat (Vb m) c).arrAt_in 2 rfl _).trans ((Down.A_eq (Vb m) c 2).trans ((V4_of m (outs m) c main_arg3 (by decide)).trans (V3_eq m c _)).symm)
  | 3 => ((ddat (Vb m) c).arrAt_in 3 rfl _).trans ((Down.A_eq (Vb m) c 3).trans ((V4_of m (outs m) c main_v4 (by decide)).trans (V3_eq m c _)).symm)
  | 4 => by
    show _ = Function.update (V3 m (outs m) c) main_v5 (outs m 4 main_v5 c) main_v5
    rw [Function.update_self, outs_v5]

theorem hrest0 (c : Dev nD) (b : Ref sig .tc) (hb : b ∉ Finset.univ.image (Pipeline.arrRef spec0)) : V2 m (outs m) c b = Va m c b :=
  V2_of m (outs m) c b fun h => hb ((by decide : ∀ r ∈ ([main_v3_0, main_v3_1, main_v3_2, main_v3_3] : List (Ref sig .tc)), r ∈ Finset.univ.image (Pipeline.arrRef spec0)) b h)

theorem hrest1 (c : Dev nD) (b : Ref sig .tc) (hb : b ∉ Finset.univ.image (Pipeline.arrRef spec1)) : V4 m (outs m) c b = Vb m c b :=
  (V4_of m (outs m) c b fun h => hb ((by decide : ∀ r ∈ ([main_v5] : List (Ref sig .tc)), r ∈ Finset.univ.image (Pipeline.arrRef spec1)) b h)).trans (V3_eq m c b)

theorem sharedIn1 : Pipeline.SharedIn spec1 := by decide

/-- The gate/up pipeline, from the buffers as the first host stretch leaves them to the results in place. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (Gate.body_obligation (Va m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X _ := BI.emp
  Y _ := BI.emp
  Z c := Pipeline.unscopedRest spec0 c (Va m c)
  hentry c := by
    rw [← Pipeline.unscopedBufs_held c (V1 m c)]
    have hsplit := Pipeline.arrays_of_unscopedBufs_shared (pcfgs (F := F)) adm (dats m) (p := 0) winFacts₀0 sharedIn0 arr_whole0 c
      (fun _ _ => rfl) (Va m c) (Gate.A_eq (Va m) c)
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold R Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = Gate.PhiK (Va m) c 0 from rfl, show Pipeline.scopedRest (Pipeline.pin pcfgs adm 0).spec c = Pipeline.scopedRest spec0 c from rfl, scopedRest0_eq]
    unfold Gate.PhiK Gate.others
    simp only [owns_whole]
    iintro ⟨-, -, ⟨%f, Hs⟩, Hr⟩
    isplitl [Hs]
    · iexists f
      isplitr; · ipureintro; exact Gate.kept_zero (Va m) c f
      iexact Hs
    iexact Hr
  hout c := by
    rw [Pipeline.ownSems0_none, show (dats m 0 c).Φ (Fin.last (Pipeline.pin pcfgs adm 0).N) = Gate.PhiK (Va m) c cfg0.N from rfl, show Pipeline.scopedRest (Pipeline.pin pcfgs adm 0).spec c = Pipeline.scopedRest spec0 c from rfl, scopedRest0_eq]
    unfold Gate.PhiK Gate.others
    simp only [owns_whole]
    iintro ⟨⟨%D, -, Hs⟩, Hr⟩
    isplitr; · iempintro
    isplitr; · iempintro
    isplitl [Hs]
    · iexists D
      iexact Hs
    iexact Hr
  hexit c := by
    rw [← Pipeline.unscopedBufs_held c (V2 m (outs m) c)]
    have hjoin := Pipeline.unscopedBufs_of_arrays_shared (pcfgs (F := F)) adm (p := 0) winFacts₀0 sharedIn0 arr_whole0 c (dats m)
      (fun _ _ => rfl) (Va m c) (fun b => V2 m (outs m) c b) _ (hF0 m c) (hrest0 m c)
    iintro ⟨Ha, HO, -, Hz⟩
    imodintro
    isplitr [HO]
    · iapply hjoin
      isplitl [Ha]; · iexact Ha
      iexact Hz
    · unfold R Pipeline.Dat.owesAt Pipeline.owesWithin
      icases HO with ⟨%W, -, HO⟩; iexists W; iexact HO

/-- The down projection's pipeline likewise. -/
def reg1 : RegionSeg (pcfgs (F := F)) adm (dats m) () defs₀ Variants.none L lv 1 where
  win := launch1.win.to₀
  block_pos := launch1.block_pos
  stage_whole := launch1.stage_whole
  K := PEmpty
  osem := fun k => k.elim
  ho := Pipeline.OwnSemFacts.none _
  hbody c := (Down.body_obligation (Vb m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X _ := BI.emp
  Y _ := BI.emp
  Z c := Pipeline.unscopedRest spec1 c (Vb m c)
  hentry c := by
    rw [← Pipeline.unscopedBufs_held c (V3 m (outs m) c), show (fun b => V3 m (outs m) c (Proc.devRef .tc b)) = Vb m c from funext fun b => V3_eq m c b]
    have hsplit := Pipeline.arrays_of_unscopedBufs_shared (pcfgs (F := F)) adm (dats m) (p := 1) launch1.win.to₀ sharedIn1 launch1.arr_whole c
      (fun _ _ => rfl) (Vb m c) (Down.A_eq (Vb m) c)
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold R Pipeline.Dat.owesAt Pipeline.owesWithin
      icases HO with ⟨%W, HO⟩; iexists W; isplitr; · ipureintro; exact fun _ _ => Or.inl trivial
      iexact HO
    isplitr; · iempintro
    iexact Hz
  hin c := by
    rw [show (dats m 1 c).Φ 0 = Pipeline.scopedRest spec1 c from rfl]
    iintro ⟨-, -, Hr⟩
    iexact Hr
  hout c := by
    rw [Pipeline.ownSems0_none, show (dats m 1 c).Φ (Fin.last (Pipeline.pin pcfgs adm 1).N) = Pipeline.scopedRest spec1 c from rfl]
    iintro Hr
    isplitr; · iempintro
    isplitr; · iempintro
    iexact Hr
  hexit c := by
    rw [← Pipeline.unscopedBufs_held c (V4 m (outs m) c)]
    have hjoin := Pipeline.unscopedBufs_of_arrays_shared (pcfgs (F := F)) adm (p := 1) launch1.win.to₀ sharedIn1 launch1.arr_whole c (dats m)
      (fun _ _ => rfl) (Vb m c) (fun b => V4 m (outs m) c b) _ (hF1 m c) (hrest1 m c)
    iintro ⟨Ha, HO, -, Hz⟩
    imodintro
    isplitr [HO]
    · iapply hjoin
      isplitl [Ha]; · iexact Ha
      iexact Hz
    · unfold R Pipeline.Dat.owesAt Pipeline.owesWithin
      icases HO with ⟨%W, -, HO⟩; iexists W; iexact HO

/-- What is claimed of core `c`'s memory at the end: the arguments as launched, the five results as the two pipelines
    leave them. -/
def Ends (c : Dev nD) (s : MemSt nD τ sig (Elt F)) : Prop :=
  ∀ b : Ref sig .tc, b.isScoped = false → s.mem ((c.tc : Thread nD τ).loc b) = V4 m (outs m) c b

set_option backward.isDefEq.respectTransparency.types false in
/-- Every fair run from memory `m` with zero counters ends, with every unscoped buffer at the last valuation and every
    counter at zero. -/
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (dats m) () cellOf_inj emb₁ defs₀ Variants.none L lv m ρ main
    (segs m (outs m) Variants.none L lv (fun _ => R) () (dats m) (reg0 m) (reg1 m))
    (fun c Q => by
      rewrite [main_chain c, Seg.run_eq_chain,
        show (segs m (outs m) Variants.none L lv (fun _ => R) () (dats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V4 m (outs m) c))
    (hch := fun c => ⟨.rfl, .rfl, .rfl, .rfl, .rfl⟩)
    (hinit := ?_) (QY := Ends m)
    (hfin := fun c s' => ?_) (hQ := fun _ h hz => ⟨h, funext fun g => hz g (.inr (regions_no_unscoped g.2))⟩)
  · rw [ownU_emb₁, BI.bigSep_emp_const]
    iintro H
    imodintro
    isplitl [H]; · iexact H
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    unfold R
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, show ¬ b.isScoped = true by simp [hb]⟩)
    · iexact HSI

/-- The frame: every fair run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c main_arg0 rfl).trans (V4_main_arg0 m (outs m) c), (h.1 c main_arg1 rfl).trans (V4_main_arg1 m (outs m) c),
    (h.1 c main_arg2 rfl).trans (V4_main_arg2 m (outs m) c), (h.1 c main_arg3 rfl).trans (V4_main_arg3 m (outs m) c),
    (h.1 c main_arg4 rfl).trans (V4_main_arg4 m (outs m) c)⟩, h.2⟩) (run_main m ρ)

end Cert.KernelIdeal.Run

end
-- ==== Proof.KerValue.lean ====
/- What the kernel's two pipelines leave in the five result arrays, over the extended reals: the row functions of `Model`
   at the kernel's choice of scale, read off the arguments as launched. -/
module

public import proofs.«01_k».proof.Proof.KerPay
public import proofs.«01_k».proof.Proof.Run

@[expose] public section

set_option maxRecDepth 16384

noncomputable section

namespace Cert.KernelIdeal.Result

open Cert.KernelIdeal Cert.KernelIdeal.Gen Cert.KernelIdeal.Gate Cert.KernelIdeal.Pay Cert.KernelIdeal.Run
open Idealize.ShloMosaic Idealize.ShloMosaic.TcCoe Idealize.SL.Sem
open Idealize.ShloMosaic.Pipeline (Dat)
open Cert.Scale (kscale kinv)
open Cert.KernelIdeal.Down (ddat)

variable (m : (ℓ : Loc nD τ sig) → Buf (Elt Ideal) ℓ)

/-! ## The arguments' rows -/

abbrev X (c : Dev nD) := Model.xs (m ((c : Thread nD τ).loc main_arg0))
abbrev W (c : Dev nD) := Model.ws (m ((c : Thread nD τ).loc main_arg1))
abbrev S (c : Dev nD) := Model.ss (m ((c : Thread nD τ).loc main_arg2))
abbrev WD (c : Dev nD) := Model.wds (m ((c : Thread nD τ).loc main_arg3))
abbrev SD (c : Dev nD) := Model.sds (m ((c : Thread nD τ).loc main_arg4))
abbrev H (c : Dev nD) (r : Fin 2048) := Model.act kscale kinv (X m c r) (W m c) (S m c)

/-- The five arrays. -/
def xcVal (c : Dev nD) : Vec Ideal S2048x5120 .fp8e4m3 := fun i => Model.code kinv (X m c (i 0)) (i 1)
@[inherit_doc xcVal] def xsVal (c : Dev nD) : Vec Ideal S2048x1 .f32 := fun i => kscale (Model.quo (X m c (i 0)))
@[inherit_doc xcVal] def hcVal (c : Dev nD) : Vec Ideal S2048x3456 .fp8e4m3 := fun i => Model.code kinv (H m c (i 0)) (i 1)
@[inherit_doc xcVal] def hsVal (c : Dev nD) : Vec Ideal S2048x1 .f32 := fun i => kscale (Model.quo (H m c (i 0)))
@[inherit_doc xcVal] def outVal (c : Dev nD) : Vec Ideal S2048x5120 .bf16 := fun i => Model.down kscale kinv (H m c (i 0)) (WD m c) (SD m c) (i 1)

/-! ## The gate/up pipeline's windows -/

theorem idx0 : ∀ t : Fin cfg0.N, win0_0.index t (0 : Fin 2) = t.val / 9 ∧ win0_0.index t (1 : Fin 2) = 0 :=
  (by decide +kernel : ∀ t : Fin grid0.N, _)
theorem idx1 : ∀ t : Fin cfg0.N, win0_1.index t (0 : Fin 2) = t.val % 9 ∧ win0_1.index t (1 : Fin 2) = 0 :=
  (by decide +kernel : ∀ t : Fin grid0.N, _)
theorem idx2 : ∀ t : Fin cfg0.N, win0_2.index t (0 : Fin 2) = t.val % 9 + 9 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 9 :=
  (by decide +kernel : ∀ t : Fin grid0.N, _)
theorem idx4 : ∀ t : Fin cfg0.N, win0_4.index t (0 : Fin 2) = 0 ∧ win0_4.index t (1 : Fin 2) = t.val % 9 + 9 :=
  (by decide +kernel : ∀ t : Fin grid0.N, _)
theorem idx5 : ∀ t : Fin cfg0.N, win0_5.index t (0 : Fin 2) = t.val / 9 ∧ win0_5.index t (1 : Fin 2) = 0 :=
  (by decide +kernel : ∀ t : Fin grid0.N, _)
theorem idx6 : ∀ t : Fin cfg0.N, win0_6.index t (0 : Fin 2) = t.val / 9 ∧ win0_6.index t (1 : Fin 2) = 0 :=
  (by decide +kernel : ∀ t : Fin grid0.N, _)
theorem idx7 : ∀ t : Fin cfg0.N, win0_7.index t (0 : Fin 2) = t.val / 9 ∧ win0_7.index t (1 : Fin 2) = 0 :=
  (by decide +kernel : ∀ t : Fin grid0.N, _)
theorem idx8 : ∀ t : Fin cfg0.N, win0_8.index t (0 : Fin 2) = t.val / 9 ∧ win0_8.index t (1 : Fin 2) = 0 :=
  (by decide +kernel : ∀ t : Fin grid0.N, _)

/-- Row `r` of point `t`'s row block, as a row of the arrays; column `j` of its slice of the gate and of the up columns. -/
def row (t : Fin cfg0.N) (r : Fin 512) : Fin 2048 := ⟨t.val / 9 * 512 + r, by have := lt36 t; omega⟩
@[inherit_doc row] def col (t : Fin cfg0.N) (j : Fin 384) : Fin 6912 := ⟨t.val % 9 * 384 + j, by omega⟩
@[inherit_doc row] def colUp (t : Fin cfg0.N) (j : Fin 384) : Fin 6912 := ⟨(t.val % 9 + 9) * 384 + j, by omega⟩

/-- The host's reshapes at an index. -/
theorem cast_x (a : FVec Ideal S2x1024x5120 .bf16) (r : Fin 2048) (d : Fin 5120) :
    shapeCast S2048x5120 a shapeCasts_S2x1024x5120_S2048x5120 (ix2 r d) = Model.xs a r d := by
  pointwise
  rfl
@[inherit_doc cast_x] theorem cast_s (a : FVec Ideal S6912 .f32) (j : Fin 6912) :
    shapeCast S1x6912 a shapeCasts_S6912_S1x6912 (ix2 0 j) = Model.ss a j := by
  pointwise
  rfl
@[inherit_doc cast_x] theorem cast_sd (a : FVec Ideal S5120 .f32) (j : Fin 5120) :
    shapeCast S1x5120 a shapeCasts_S5120_S1x5120 (ix2 0 j) = Model.sds a j := by
  pointwise
  rfl

/-- What the pipeline finds in the arrays it reads. -/
theorem V_v2 (c : Dev nD) (r : Fin 2048) (d : Fin 5120) : V1 m c main_v2 (ix2 r d : S2048x5120.Idx) = X m c r d := by
  have h : (V1 m c main_v2 : FVec Ideal S2048x5120 .bf16) = shapeCast S2048x5120 (m ((c : Thread nD τ).loc main_arg0) : FVec Ideal S2x1024x5120 .bf16) shapeCasts_S2x1024x5120_S2048x5120 := by
    show StableHlo.after hostOps0 (V0 m c) main_v2 = _
    after_results
    rfl
  rw [h]
  exact cast_x _ r d
theorem V_v0 (c : Dev nD) (j : Fin 6912) (d : Fin 5120) : V1 m c main_v0 (ix2 j d : S6912x5120.Idx) = W m c j d := by
  have h : (V1 m c main_v0 : FVec Ideal S6912x5120 .fp8e4m3) = (bitcastToFloat .fp8e4m3 (m ((c : Thread nD τ).loc main_arg1) : IVec S6912x5120 8) : FVec Ideal S6912x5120 .fp8e4m3) := by
    show StableHlo.after hostOps0 (V0 m c) main_v0 = _
    after_results
  rw [h]
  rfl
theorem V_v1 (c : Dev nD) (j : Fin 6912) : V1 m c main_v1 (ix2 0 j : S1x6912.Idx) = S m c j := by
  have h : (V1 m c main_v1 : FVec Ideal S1x6912 .f32) = shapeCast S1x6912 (m ((c : Thread nD τ).loc main_arg2) : FVec Ideal S6912 .f32) shapeCasts_S6912_S1x6912 := by
    show StableHlo.after hostOps0 (V0 m c) main_v1 = _
    after_results
    rfl
  rw [h]
  exact cast_s _ j

/-- Where each window's block lies in its array. -/
theorem emb0 (t : Fin cfg0.N) (r : Fin 512) (d : Fin 5120) :
    ((cfg0.win 0).blk t).view.emb (ix2 r d : S512x5120.Idx) = (ix2 (row t r) d : S2048x5120.Idx) := by
  obtain ⟨e0, e1⟩ := idx0 t
  funext a; apply Fin.ext
  match a with
  | ⟨0, _⟩ => show win0_0.index t (0 : Fin 2) * 512 + 1 * r.val = t.val / 9 * 512 + r.val; omega
  | ⟨1, _⟩ => show win0_0.index t (1 : Fin 2) * 5120 + 1 * d.val = d.val; omega
theorem emb1 (t : Fin cfg0.N) (j : Fin 384) (d : Fin 5120) :
    ((cfg0.win 1).blk t).view.emb (ix2 j d : S384x5120.Idx) = (ix2 (col t j) d : S6912x5120.Idx) := by
  obtain ⟨e0, e1⟩ := idx1 t
  funext a; apply Fin.ext
  match a with
  | ⟨0, _⟩ => show win0_1.index t (0 : Fin 2) * 384 + 1 * j.val = t.val % 9 * 384 + j.val; omega
  | ⟨1, _⟩ => show win0_1.index t (1 : Fin 2) * 5120 + 1 * d.val = d.val; omega
theorem emb2 (t : Fin cfg0.N) (j : Fin 384) (d : Fin 5120) :
    ((cfg0.win 2).blk t).view.emb (ix2 j d : S384x5120.Idx) = (ix2 (colUp t j) d : S6912x5120.Idx) := by
  obtain ⟨e0, e1⟩ := idx2 t
  funext a; apply Fin.ext
  match a with
  | ⟨0, _⟩ => show win0_2.index t (0 : Fin 2) * 384 + 1 * j.val = (t.val % 9 + 9) * 384 + j.val; omega
  | ⟨1, _⟩ => show win0_2.index t (1 : Fin 2) * 5120 + 1 * d.val = d.val; omega
theorem emb3 (t : Fin cfg0.N) (j : Fin 384) :
    ((cfg0.win 3).blk t).view.emb (ix2 0 j : S1x384.Idx) = (ix2 0 (col t j) : S1x6912.Idx) := by
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 384 + 1 * j.val = t.val % 9 * 384 + j.val; omega
theorem emb4 (t : Fin cfg0.N) (j : Fin 384) :
    ((cfg0.win 4).blk t).view.emb (ix2 0 j : S1x384.Idx) = (ix2 0 (colUp t j) : S1x6912.Idx) := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 384 + 1 * j.val = (t.val % 9 + 9) * 384 + j.val; omega
theorem emb5 (t : Fin cfg0.N) (r : Fin 512) (d : Fin 5120) :
    ((cfg0.win 5).blk t).view.emb (ix2 r d : S512x5120.Idx) = (ix2 (row t r) d : S2048x5120.Idx) := by
  obtain ⟨e0, e1⟩ := idx5 t
  funext a; apply Fin.ext
  match a with
  | ⟨0, _⟩ => show win0_5.index t (0 : Fin 2) * 512 + 1 * r.val = t.val / 9 * 512 + r.val; omega
  | ⟨1, _⟩ => show win0_5.index t (1 : Fin 2) * 5120 + 1 * d.val = d.val; omega
theorem emb7 (t : Fin cfg0.N) (r : Fin 512) (d : Fin 3456) :
    ((cfg0.win 7).blk t).view.emb (ix2 r d : S512x3456.Idx) = (ix2 (row t r) d : S2048x3456.Idx) := by
  obtain ⟨e0, e1⟩ := idx7 t
  funext a; apply Fin.ext
  match a with
  | ⟨0, _⟩ => show win0_7.index t (0 : Fin 2) * 512 + 1 * r.val = t.val / 9 * 512 + r.val; omega
  | ⟨1, _⟩ => show win0_7.index t (1 : Fin 2) * 3456 + 1 * d.val = d.val; omega
theorem emb6 (t : Fin cfg0.N) (r : Fin 512) :
    ((cfg0.win 6).blk t).view.emb (ix2 r 0 : S512x1.Idx) = (ix2 (row t r) 0 : S2048x1.Idx) := by
  obtain ⟨e0, e1⟩ := idx6 t
  funext a; apply Fin.ext
  match a with
  | ⟨0, _⟩ => show win0_6.index t (0 : Fin 2) * 512 + 1 * r.val = t.val / 9 * 512 + r.val; omega
  | ⟨1, _⟩ => show win0_6.index t (1 : Fin 2) * 1 + 1 * 0 = 0; omega
theorem emb8 (t : Fin cfg0.N) (r : Fin 512) :
    ((cfg0.win 8).blk t).view.emb (ix2 r 0 : S512x1.Idx) = (ix2 (row t r) 0 : S2048x1.Idx) := by
  obtain ⟨e0, e1⟩ := idx8 t
  funext a; apply Fin.ext
  match a with
  | ⟨0, _⟩ => show win0_8.index t (0 : Fin 2) * 512 + 1 * r.val = t.val / 9 * 512 + r.val; omega
  | ⟨1, _⟩ => show win0_8.index t (1 : Fin 2) * 1 + 1 * 0 = 0; omega

/-- The blocks read, as rows of the arguments. -/
theorem iblk0 (c : Dev nD) (t : Fin cfg0.N) (r : Fin 512) (d : Fin 5120) : Gate.iblk (Va m) c 0 t (ix2 r d : S512x5120.Idx) = X m c (row t r) d := by
  rw [← V_v2 m c]
  show V1 m c main_v2 (((cfg0.win 0).blk t).view.emb (ix2 r d : S512x5120.Idx)) = _
  rw [emb0]
theorem iblk1 (c : Dev nD) (t : Fin cfg0.N) (j : Fin 384) (d : Fin 5120) : Gate.iblk (Va m) c 1 t (ix2 j d : S384x5120.Idx) = W m c (col t j) d := by
  rw [← V_v0 m c]
  show V1 m c main_v0 (((cfg0.win 1).blk t).view.emb (ix2 j d : S384x5120.Idx)) = _
  rw [emb1]
theorem iblk2 (c : Dev nD) (t : Fin cfg0.N) (j : Fin 384) (d : Fin 5120) : Gate.iblk (Va m) c 2 t (ix2 j d : S384x5120.Idx) = W m c (colUp t j) d := by
  rw [← V_v0 m c]
  show V1 m c main_v0 (((cfg0.win 2).blk t).view.emb (ix2 j d : S384x5120.Idx)) = _
  rw [emb2]
theorem iblk3 (c : Dev nD) (t : Fin cfg0.N) (j : Fin 384) : Gate.iblk (Va m) c 3 t (ix2 0 j : S1x384.Idx) = S m c (col t j) := by
  rw [← V_v1 m c]
  show V1 m c main_v1 (((cfg0.win 3).blk t).view.emb (ix2 0 j : S1x384.Idx)) = _
  rw [emb3]
theorem iblk4 (c : Dev nD) (t : Fin cfg0.N) (j : Fin 384) : Gate.iblk (Va m) c 4 t (ix2 0 j : S1x384.Idx) = S m c (colUp t j) := by
  rw [← V_v1 m c]
  show V1 m c main_v1 (((cfg0.win 4).blk t).view.emb (ix2 0 j : S1x384.Idx)) = _
  rw [emb4]

theorem xrow (c : Dev nD) (t : Fin cfg0.N) (r : Fin 512) : (fun d : Fin 5120 => Gate.iblk (Va m) c 0 t (ix2 r d : S512x5120.Idx)) = X m c (row t r) :=
  funext fun d => iblk0 m c t r d

theorem xc_at (c : Dev nD) (t : Fin cfg0.N) (r : Fin 512) (d : Fin 5120) :
    xcOf (F := Ideal) (Gate.iblk (Va m) c 0 t) (ix2 r d) = Model.code kinv (X m c (row t r)) d := by
  refine (xcOf_apply _ r d).trans ?_
  rw [xrow]
theorem xs_at (c : Dev nD) (t : Fin cfg0.N) (r : Fin 512) :
    xsOf (F := Ideal) (Gate.iblk (Va m) c 0 t) (ix2 r 0) = kscale (Model.quo (X m c (row t r))) := by
  refine (xsOf_apply _ r).trans ?_
  rw [xrow]

/-- The slice of activations a point computes. -/
theorem hAt_apply (c : Dev nD) (s : Fin cfg0.N) (r : Fin 512) (j : Fin 384) (n : Fin 3456) (hn : n.val = s.val % 9 * 384 + j.val) :
    hAt (Va m) c s (ix3 0 r j) = H m c (row s r) n := by
  have eg : Model.gate n = col s j := Fin.ext hn
  have eu : Model.up n = colUp s j := Fin.ext (by show 3456 + n.val = (s.val % 9 + 9) * 384 + j.val; omega)
  unfold hAt
  refine (pay22_apply _ _ _ _ _ _ r j).trans ?_
  unfold H Model.act Model.gu
  rw [eg, eu, xs_at, iblk3, iblk4]
  simp only [xc_at, iblk1, iblk2]

/-- The rows of activations kept at the last point of a row block. -/
theorem hrow_eq (c : Dev nD) (t : Fin cfg0.N) (r : Fin 512) : hrow (Dfull (Va m) c t) r = H m c (row t r) := by
  funext n
  have ht := lt36 t
  have h9 : n.val / 384 < 9 := by omega
  show hAt (Va m) c (pt (9 * (t.val / 9) + n.val / 384) _) (inSlice (ix3 (⟨n.val / 384, by omega⟩ : Fin 9) r (⟨n.val % 384, by omega⟩ : Fin 384) : S9x512x384.Idx)) = _
  have e : inSlice (ix3 (⟨n.val / 384, by omega⟩ : Fin 9) r (⟨n.val % 384, by omega⟩ : Fin 384) : S9x512x384.Idx) = ix3 0 r (⟨n.val % 384, by omega⟩ : Fin 384) := by
    funext a
    match a with
    | ⟨0, _⟩ => rfl
    | ⟨1, _⟩ => rfl
    | ⟨2, _⟩ => rfl
  rw [e]
  refine (hAt_apply m c _ r _ n ?_).trans ?_
  · show n.val = (9 * (t.val / 9) + n.val / 384) % 9 * 384 + n.val % 384
    omega
  · have er : row (pt (9 * (t.val / 9) + n.val / 384) (by omega)) r = row t r :=
      Fin.ext (by show (9 * (t.val / 9) + n.val / 384) / 9 * 512 + r.val = t.val / 9 * 512 + r.val; omega)
    rw [er]

/-! ## The gate/up pipeline's four arrays -/

theorem flushed5 (c : Dev nD) (t : Fin cfg0.N) :
    (gdat (Va m) c).flushed 5 t = ((cfg0.win 5).blk t).view.read (Elt Ideal) (xcVal m c) := by
  show (cfg0.win 5).cut (grid0.coords t) ((gdat (Va m) c).after 5 t) = _
  rw [after_5]
  funext i
  obtain ⟨r, d, rfl⟩ : ∃ (r : Fin 512) (d : Fin 5120), i = (ix2 r d : S512x5120.Idx) := ⟨i 0, i 1, eq_ix2 i⟩
  show xcOf (F := Ideal) (Gate.iblk (Va m) c 0 t) (ix2 r d) = xcVal m c (((cfg0.win 5).blk t).view.emb (ix2 r d : S512x5120.Idx))
  rw [emb5]
  exact xc_at m c t r d

theorem cover5 (i : S2048x5120.Idx) : ∃ t : Fin cfg0.N, (cfg0.win 5).flush t = true ∧ i ∈ ((cfg0.win 5).blk t).view.set := by
  obtain ⟨r, l, rfl⟩ : ∃ (r : Fin 2048) (l : Fin 5120), i = (ix2 r l : S2048x5120.Idx) := ⟨i 0, i 1, eq_ix2 i⟩
  have ht : 9 * (r.val / 512) + 8 < 36 := by omega
  refine ⟨pt (9 * (r.val / 512) + 8) ht, (flush0_5 _).mpr (by show (9 * (r.val / 512) + 8) % 9 = 8; omega), ?_⟩
  have h := ((cfg0.win 5).blk (pt (9 * (r.val / 512) + 8) ht)).view.emb_mem_set (ix2 ⟨r.val % 512, by omega⟩ l : S512x5120.Idx)
  rw [emb5] at h
  have e0 : row (pt (9 * (r.val / 512) + 8) ht) ⟨r.val % 512, by omega⟩ = r := Fin.ext (by show (9 * (r.val / 512) + 8) / 9 * 512 + r.val % 512 = r; omega)
  rwa [e0] at h
theorem final5 (c : Dev nD) : (gdat (Va m) c).arrAt 5 cfg0.N = xcVal m c :=
  (gdat (Va m) c).arrAt_eq_of_cover 5 (xcVal m c) (fun t _ => flushed5 m c t) cover5

theorem flushed7 (c : Dev nD) (t : Fin cfg0.N) :
    (gdat (Va m) c).flushed 7 t = ((cfg0.win 7).blk t).view.read (Elt Ideal) (hcVal m c) := by
  show (cfg0.win 7).cut (grid0.coords t) ((gdat (Va m) c).after 7 t) = _
  rw [after_7]
  funext i
  obtain ⟨r, d, rfl⟩ : ∃ (r : Fin 512) (d : Fin 3456), i = (ix2 r d : S512x3456.Idx) := ⟨i 0, i 1, eq_ix2 i⟩
  show hcOf (F := Ideal) (Dfull (Va m) c t) (ix2 r d) = hcVal m c (((cfg0.win 7).blk t).view.emb (ix2 r d : S512x3456.Idx))
  rw [emb7]
  rw [hcOf_eq]
  show Model.code kinv (hrow (Dfull (Va m) c t) r) d = _
  rw [hrow_eq]
  rfl

theorem cover7 (i : S2048x3456.Idx) : ∃ t : Fin cfg0.N, (cfg0.win 7).flush t = true ∧ i ∈ ((cfg0.win 7).blk t).view.set := by
  obtain ⟨r, l, rfl⟩ : ∃ (r : Fin 2048) (l : Fin 3456), i = (ix2 r l : S2048x3456.Idx) := ⟨i 0, i 1, eq_ix2 i⟩
  have ht : 9 * (r.val / 512) + 8 < 36 := by omega
  refine ⟨pt (9 * (r.val / 512) + 8) ht, (flush0_7 _).mpr (by show (9 * (r.val / 512) + 8) % 9 = 8; omega), ?_⟩
  have h := ((cfg0.win 7).blk (pt (9 * (r.val / 512) + 8) ht)).view.emb_mem_set (ix2 ⟨r.val % 512, by omega⟩ l : S512x3456.Idx)
  rw [emb7] at h
  have e0 : row (pt (9 * (r.val / 512) + 8) ht) ⟨r.val % 512, by omega⟩ = r := Fin.ext (by show (9 * (r.val / 512) + 8) / 9 * 512 + r.val % 512 = r; omega)
  rwa [e0] at h
theorem final7 (c : Dev nD) : (gdat (Va m) c).arrAt 7 cfg0.N = hcVal m c :=
  (gdat (Va m) c).arrAt_eq_of_cover 7 (hcVal m c) (fun t _ => flushed7 m c t) cover7

theorem flushed6 (c : Dev nD) (t : Fin cfg0.N) :
    (gdat (Va m) c).flushed 6 t = ((cfg0.win 6).blk t).view.read (Elt Ideal) (xsVal m c) := by
  show (cfg0.win 6).cut (grid0.coords t) ((gdat (Va m) c).after 6 t) = _
  rw [after_6]
  funext i
  obtain ⟨r, rfl⟩ : ∃ (r : Fin 512), i = (ix2 r 0 : S512x1.Idx) := ⟨i 0, (eq_ix2 i).trans (congrArg (ix2 (i 0)) (Subsingleton.elim (α := Fin 1) (i 1) 0))⟩
  show xsOf (F := Ideal) (Gate.iblk (Va m) c 0 t) (ix2 r 0) = xsVal m c (((cfg0.win 6).blk t).view.emb (ix2 r 0 : S512x1.Idx))
  rw [emb6]
  exact xs_at m c t r

theorem cover6 (i : S2048x1.Idx) : ∃ t : Fin cfg0.N, (cfg0.win 6).flush t = true ∧ i ∈ ((cfg0.win 6).blk t).view.set := by
  obtain ⟨r, rfl⟩ : ∃ (r : Fin 2048), i = (ix2 r 0 : S2048x1.Idx) := ⟨i 0, (eq_ix2 i).trans (congrArg (ix2 (i 0)) (Subsingleton.elim (α := Fin 1) (i 1) 0))⟩
  have ht : 9 * (r.val / 512) + 8 < 36 := by omega
  refine ⟨pt (9 * (r.val / 512) + 8) ht, (flush0_6 _).mpr (by show (9 * (r.val / 512) + 8) % 9 = 8; omega), ?_⟩
  have h := ((cfg0.win 6).blk (pt (9 * (r.val / 512) + 8) ht)).view.emb_mem_set (ix2 ⟨r.val % 512, by omega⟩ 0 : S512x1.Idx)
  rw [emb6] at h
  have e0 : row (pt (9 * (r.val / 512) + 8) ht) ⟨r.val % 512, by omega⟩ = r := Fin.ext (by show (9 * (r.val / 512) + 8) / 9 * 512 + r.val % 512 = r; omega)
  rwa [e0] at h
theorem final6 (c : Dev nD) : (gdat (Va m) c).arrAt 6 cfg0.N = xsVal m c :=
  (gdat (Va m) c).arrAt_eq_of_cover 6 (xsVal m c) (fun t _ => flushed6 m c t) cover6

theorem flushed8 (c : Dev nD) (t : Fin cfg0.N) :
    (gdat (Va m) c).flushed 8 t = ((cfg0.win 8).blk t).view.read (Elt Ideal) (hsVal m c) := by
  show (cfg0.win 8).cut (grid0.coords t) ((gdat (Va m) c).after 8 t) = _
  rw [after_8]
  funext i
  obtain ⟨r, rfl⟩ : ∃ (r : Fin 512), i = (ix2 r 0 : S512x1.Idx) := ⟨i 0, (eq_ix2 i).trans (congrArg (ix2 (i 0)) (Subsingleton.elim (α := Fin 1) (i 1) 0))⟩
  show hsOf (F := Ideal) (Dfull (Va m) c t) (ix2 r 0) = hsVal m c (((cfg0.win 8).blk t).view.emb (ix2 r 0 : S512x1.Idx))
  rw [emb8]
  rw [hsOf_apply, hrow_eq]
  rfl

theorem cover8 (i : S2048x1.Idx) : ∃ t : Fin cfg0.N, (cfg0.win 8).flush t = true ∧ i ∈ ((cfg0.win 8).blk t).view.set := by
  obtain ⟨r, rfl⟩ : ∃ (r : Fin 2048), i = (ix2 r 0 : S2048x1.Idx) := ⟨i 0, (eq_ix2 i).trans (congrArg (ix2 (i 0)) (Subsingleton.elim (α := Fin 1) (i 1) 0))⟩
  have ht : 9 * (r.val / 512) + 8 < 36 := by omega
  refine ⟨pt (9 * (r.val / 512) + 8) ht, (flush0_8 _).mpr (by show (9 * (r.val / 512) + 8) % 9 = 8; omega), ?_⟩
  have h := ((cfg0.win 8).blk (pt (9 * (r.val / 512) + 8) ht)).view.emb_mem_set (ix2 ⟨r.val % 512, by omega⟩ 0 : S512x1.Idx)
  rw [emb8] at h
  have e0 : row (pt (9 * (r.val / 512) + 8) ht) ⟨r.val % 512, by omega⟩ = r := Fin.ext (by show (9 * (r.val / 512) + 8) / 9 * 512 + r.val % 512 = r; omega)
  rwa [e0] at h
theorem final8 (c : Dev nD) : (gdat (Va m) c).arrAt 8 cfg0.N = hsVal m c :=
  (gdat (Va m) c).arrAt_eq_of_cover 8 (hsVal m c) (fun t _ => flushed8 m c t) cover8

/-! ## The down projection's pipeline -/

theorem dpay_apply (x0 : Vec Ideal S1024x3456 .fp8e4m3) (x2 : Vec Ideal S512x3456 .fp8e4m3) (x1 : Vec Ideal S1024x1 .f32)
    (x3 : Vec Ideal S1x512 .f32) (r : Fin 1024) (j : Fin 512) :
    k1_pay1 x0 x2 x1 x3 (ix2 r j) = (∑ k : Fin 3456, x0 (ix2 r k) * x2 (ix2 j k)) * x1 (ix2 r 0) * x3 (ix2 0 j) := by
  pointwise [k1_pay1]

theorem idxD0 : ∀ t : Fin cfg1.N, win1_0.index t (0 : Fin 2) = t.val / 10 ∧ win1_0.index t (1 : Fin 2) = 0 :=
  (by decide +kernel : ∀ t : Fin grid1.N, _)
theorem idxD1 : ∀ t : Fin cfg1.N, win1_1.index t (0 : Fin 2) = t.val / 10 ∧ win1_1.index t (1 : Fin 2) = 0 :=
  (by decide +kernel : ∀ t : Fin grid1.N, _)
theorem idxD2 : ∀ t : Fin cfg1.N, win1_2.index t (0 : Fin 2) = t.val % 10 ∧ win1_2.index t (1 : Fin 2) = 0 :=
  (by decide +kernel : ∀ t : Fin grid1.N, _)
theorem idxD3 : ∀ t : Fin cfg1.N, win1_3.index t (0 : Fin 2) = 0 ∧ win1_3.index t (1 : Fin 2) = t.val % 10 :=
  (by decide +kernel : ∀ t : Fin grid1.N, _)
theorem idxD4 : ∀ t : Fin cfg1.N, win1_4.index t (0 : Fin 2) = t.val / 10 ∧ win1_4.index t (1 : Fin 2) = t.val % 10 :=
  (by decide +kernel : ∀ t : Fin grid1.N, _)

theorem lt20 (t : Fin cfg1.N) : t.val < 20 := lt_of_lt_of_eq t.isLt (show cfg1.N = 20 from N_1)

/-- Row `r` of point `t`'s row block of the result; column `j` of its column block. -/
def drow (t : Fin cfg1.N) (r : Fin 1024) : Fin 2048 := ⟨t.val / 10 * 1024 + r, by have := lt20 t; omega⟩
@[inherit_doc drow] def dcol (t : Fin cfg1.N) (j : Fin 512) : Fin 5120 := ⟨t.val % 10 * 512 + j, by omega⟩

theorem embD0 (t : Fin cfg1.N) (r : Fin 1024) (k : Fin 3456) :
    ((cfg1.win 0).blk t).view.emb (ix2 r k : S1024x3456.Idx) = (ix2 (drow t r) k : S2048x3456.Idx) := by
  obtain ⟨e0, e1⟩ := idxD0 t
  funext a; apply Fin.ext
  match a with
  | ⟨0, _⟩ => show win1_0.index t (0 : Fin 2) * 1024 + 1 * r.val = t.val / 10 * 1024 + r.val; omega
  | ⟨1, _⟩ => show win1_0.index t (1 : Fin 2) * 3456 + 1 * k.val = k.val; omega
theorem embD1 (t : Fin cfg1.N) (r : Fin 1024) :
    ((cfg1.win 1).blk t).view.emb (ix2 r 0 : S1024x1.Idx) = (ix2 (drow t r) 0 : S2048x1.Idx) := by
  obtain ⟨e0, e1⟩ := idxD1 t
  funext a; apply Fin.ext
  match a with
  | ⟨0, _⟩ => show win1_1.index t (0 : Fin 2) * 1024 + 1 * r.val = t.val / 10 * 1024 + r.val; omega
  | ⟨1, _⟩ => show win1_1.index t (1 : Fin 2) * 1 + 1 * 0 = 0; omega
theorem embD2 (t : Fin cfg1.N) (j : Fin 512) (k : Fin 3456) :
    ((cfg1.win 2).blk t).view.emb (ix2 j k : S512x3456.Idx) = (ix2 (dcol t j) k : S5120x3456.Idx) := by
  obtain ⟨e0, e1⟩ := idxD2 t
  funext a; apply Fin.ext
  match a with
  | ⟨0, _⟩ => show win1_2.index t (0 : Fin 2) * 512 + 1 * j.val = t.val % 10 * 512 + j.val; omega
  | ⟨1, _⟩ => show win1_2.index t (1 : Fin 2) * 3456 + 1 * k.val = k.val; omega
theorem embD3 (t : Fin cfg1.N) (j : Fin 512) :
    ((cfg1.win 3).blk t).view.emb (ix2 0 j : S1x512.Idx) = (ix2 0 (dcol t j) : S1x5120.Idx) := by
  obtain ⟨e0, e1⟩ := idxD3 t
  funext a; apply Fin.ext
  match a with
  | ⟨0, _⟩ => show win1_3.index t (0 : Fin 2) * 1 + 1 * 0 = 0; omega
  | ⟨1, _⟩ => show win1_3.index t (1 : Fin 2) * 512 + 1 * j.val = t.val % 10 * 512 + j.val; omega
theorem embD4 (t : Fin cfg1.N) (r : Fin 1024) (j : Fin 512) :
    ((cfg1.win 4).blk t).view.emb (ix2 r j : S1024x512.Idx) = (ix2 (drow t r) (dcol t j) : S2048x5120.Idx) := by
  obtain ⟨e0, e1⟩ := idxD4 t
  funext a; apply Fin.ext
  match a with
  | ⟨0, _⟩ => show win1_4.index t (0 : Fin 2) * 1024 + 1 * r.val = t.val / 10 * 1024 + r.val; omega
  | ⟨1, _⟩ => show win1_4.index t (1 : Fin 2) * 512 + 1 * j.val = t.val % 10 * 512 + j.val; omega

/-- What the down projection finds: the gate/up pipeline's codes and scales, its weight and its column scales. -/
theorem Vb_of (c : Dev nD) (b : Ref sig .tc) (h : b ∉ hostOps1_W) : Vb m c b = W2 m c b := by
  rw [← V3_eq, ← V2_eq]; exact V3_of m (outs m) c b h
theorem Vb_hc (c : Dev nD) : Vb m c main_v3_2 = hcVal m c := by
  rw [Vb_of m c main_v3_2 (by decide), W2_2, final7]
theorem Vb_hs (c : Dev nD) : Vb m c main_v3_3 = hsVal m c := by
  rw [Vb_of m c main_v3_3 (by decide), W2_3, final8]
theorem Vb_wd (c : Dev nD) : Vb m c main_arg3 = m ((c : Thread nD τ).loc main_arg3) := by
  rw [← V3_eq, ← V4_of m (outs m) c main_arg3 (by decide)]; exact V4_main_arg3 m (outs m) c
theorem Vb_sd (c : Dev nD) (j : Fin 5120) : Vb m c main_v4 (ix2 0 j : S1x5120.Idx) = SD m c j := by
  have h0 : W2 m c main_arg4 = m ((c : Thread nD τ).loc main_arg4) := by
    rw [← Vb_of m c main_arg4 (by decide), ← V3_eq, ← V4_of m (outs m) c main_arg4 (by decide)]; exact V4_main_arg4 m (outs m) c
  have h : (Vb m c main_v4 : FVec Ideal S1x5120 .f32) = shapeCast S1x5120 (W2 m c main_arg4 : FVec Ideal S5120 .f32) shapeCasts_S5120_S1x5120 := by
    unfold Vb
    after_results
    rfl
  rw [h, h0]
  exact cast_sd _ j

theorem iblkD0 (c : Dev nD) (t : Fin cfg1.N) (r : Fin 1024) (k : Fin 3456) :
    Down.iblk (Vb m) c 0 t (ix2 r k : S1024x3456.Idx) = Model.code kinv (H m c (drow t r)) k := by
  show Vb m c main_v3_2 (((cfg1.win 0).blk t).view.emb (ix2 r k : S1024x3456.Idx)) = _
  rw [embD0, Vb_hc]; rfl
theorem iblkD1 (c : Dev nD) (t : Fin cfg1.N) (r : Fin 1024) :
    Down.iblk (Vb m) c 1 t (ix2 r 0 : S1024x1.Idx) = kscale (Model.quo (H m c (drow t r))) := by
  show Vb m c main_v3_3 (((cfg1.win 1).blk t).view.emb (ix2 r 0 : S1024x1.Idx)) = _
  rw [embD1, Vb_hs]; rfl
theorem iblkD2 (c : Dev nD) (t : Fin cfg1.N) (j : Fin 512) (k : Fin 3456) :
    Down.iblk (Vb m) c 2 t (ix2 j k : S512x3456.Idx) = WD m c (dcol t j) k := by
  show Vb m c main_arg3 (((cfg1.win 2).blk t).view.emb (ix2 j k : S512x3456.Idx)) = _
  rw [embD2, Vb_wd]; rfl
theorem iblkD3 (c : Dev nD) (t : Fin cfg1.N) (j : Fin 512) :
    Down.iblk (Vb m) c 3 t (ix2 0 j : S1x512.Idx) = SD m c (dcol t j) := by
  show Vb m c main_v4 (((cfg1.win 3).blk t).view.emb (ix2 0 j : S1x512.Idx)) = _
  rw [embD3, Vb_sd]

theorem flushedD (c : Dev nD) (t : Fin cfg1.N) :
    (ddat (Vb m) c).flushed 4 t = ((cfg1.win 4).blk t).view.read (Elt Ideal) (outVal m c) := by
  show (cfg1.win 4).cut (grid1.coords t) ((ddat (Vb m) c).after 4 t) = _
  rw [Down.after_4]
  funext i
  obtain ⟨r, l, rfl⟩ : ∃ (r : Fin 1024) (l : Fin 512), i = (ix2 r l : S1024x512.Idx) := ⟨i 0, i 1, eq_ix2 i⟩
  show k1_pay1 (F := Ideal) (Down.iblk (Vb m) c 0 t) (Down.iblk (Vb m) c 2 t) (Down.iblk (Vb m) c 1 t) (Down.iblk (Vb m) c 3 t) (ix2 r l)
    = outVal m c (((cfg1.win 4).blk t).view.emb (ix2 r l : S1024x512.Idx))
  rw [embD4]
  refine (dpay_apply _ _ _ _ r l).trans ?_
  rw [iblkD1, iblkD3]
  simp only [iblkD0, iblkD2]
  rfl
theorem coverD (i : S2048x5120.Idx) : ∃ t : Fin cfg1.N, (cfg1.win 4).flush t = true ∧ i ∈ ((cfg1.win 4).blk t).view.set := by
  obtain ⟨r, l, rfl⟩ : ∃ (r : Fin 2048) (l : Fin 5120), i = (ix2 r l : S2048x5120.Idx) := ⟨i 0, i 1, eq_ix2 i⟩
  let t : Fin cfg1.N := ⟨r.val / 1024 * 10 + l.val / 512, lt_of_lt_of_eq (by omega) (show 20 = cfg1.N from N_1.symm)⟩
  refine ⟨t, flush1_4 _, ?_⟩
  have h := ((cfg1.win 4).blk t).view.emb_mem_set (ix2 ⟨r.val % 1024, by omega⟩ ⟨l.val % 512, by omega⟩ : S1024x512.Idx)
  rw [embD4] at h
  have e0 : drow t ⟨r.val % 1024, by omega⟩ = r := Fin.ext (by show (r.val / 1024 * 10 + l.val / 512) / 10 * 1024 + r.val % 1024 = r; omega)
  have e1 : dcol t ⟨l.val % 512, by omega⟩ = l := Fin.ext (by show (r.val / 1024 * 10 + l.val / 512) % 10 * 512 + l.val % 512 = l; omega)
  rwa [e0, e1] at h
theorem finalD (c : Dev nD) : (ddat (Vb m) c).arrAt 4 cfg1.N = outVal m c :=
  (ddat (Vb m) c).arrAt_eq_of_cover 4 (outVal m c) (fun t _ => flushedD m c t) coverD

/-! ## The results at the end of the run -/

theorem end_out (c : Dev nD) : V4 m (outs m) c main_v5 = outVal m c := by
  rw [← finalD]; exact (hF1 m c 4).symm
theorem end_of (c : Dev nD) (b : Ref sig .tc) (h4 : b ∉ ([main_v5] : List (Ref sig .tc))) (h1 : b ∉ hostOps1_W) : V4 m (outs m) c b = W2 m c b :=
  (V4_of m (outs m) c b h4).trans ((V3_eq m c b).trans (Vb_of m c b h1))
theorem end_xc (c : Dev nD) : V4 m (outs m) c main_v3_0 = xcVal m c := by
  rw [end_of m c main_v3_0 (by decide) (by decide), W2_0, final5]
theorem end_xs (c : Dev nD) : V4 m (outs m) c main_v3_1 = xsVal m c := by
  rw [end_of m c main_v3_1 (by decide) (by decide), W2_1, final6]
theorem end_hc (c : Dev nD) : V4 m (outs m) c main_v3_2 = hcVal m c := by
  rw [end_of m c main_v3_2 (by decide) (by decide), W2_2, final7]
theorem end_hs (c : Dev nD) : V4 m (outs m) c main_v3_3 = hsVal m c := by
  rw [end_of m c main_v3_3 (by decide) (by decide), W2_3, final8]

end Cert.KernelIdeal.Result

end
-- ==== Proof.Within.lean ====
/- What the precondition says of the arguments, elementwise: x and the gate/up column scales are numbers, the greatest |x|
   times a column's scale is at most 2^45, and no weight code is one of the two that are not numbers. Hence the kernel's
   scales and the reference's are the same on every row of x and of the activations. -/
module

public import proofs.«01_k».proof.Proof.Bound
public import proofs.«01_k».proof.Proof.KerValue
public import proofs.«01_k».proof.Defs
public import proofs.«01_k».proof.Proof.Gen.Pre_within_range

@[expose] public section

set_option maxRecDepth 16384

noncomputable section

namespace Cert.Within

open Cert.Pre_within_range Idealize.ShloMosaic Idealize.ShloMosaic.TcCoe
open Cert.Model (Bd Agree)

theorem of_ole {s : Shape} {φ : FTy} (x y : FVec Ideal s φ) (h : cmpf .ole x y = fun _ => 1#1) (i : s.Idx) : x i ≤ y i := by
  have e : BitVec.ofBool (decide (x i ≤ y i)) = 1#1 := congrFun h i
  by_contra hc
  rw [decide_eq_false hc] at e
  exact absurd e (by decide)

theorem big_x : Ideal.ofBits .bf16 0x7F7F#16 = ((255 * (2 : ℝ) ^ (120 : ℤ) : ℝ) : EReal) := by
  simp [Ideal.ofBits, Ideal.ieee, -EReal.coe_mul]
theorem big_s : ∃ b : ℝ, Ideal.ofBits .f32 0x7F7FC99E#32 = b := by
  refine ⟨16763294 * (2 : ℝ) ^ (104 : ℤ), ?_⟩
  simp [Ideal.ofBits, Ideal.ieee, -EReal.coe_mul]
theorem big_xs : Ideal.ofBits .f32 0x56000000#32 = (((2 : ℝ) ^ 45 : ℝ) : EReal) := by
  rw [show ((2 : ℝ) ^ 45) = 35184372088832 by norm_num]
  simp [Ideal.ofBits, Ideal.ieee, -EReal.coe_mul]; norm_num

section
variable [Cert.Pre_within_range.Facts]
variable (x : FVec Ideal S2x1024x5120 .bf16) (w : IVec S6912x5120 8) (s : FVec Ideal S6912 .f32) (wd : FVec Ideal S5120x3456 .fp8e4m3) (sd : FVec Ideal S5120 .f32)

/-- The greatest magnitude of `x`. -/
def top : FVec Ideal S_ .bf16 :=
  Host.reduce FloatOps.maximumf (Host.absf x) (constant S_ .bf16 0xFF80#16) Facts.reducesTo_S2x1024x5120_S_d0_1_2 Facts.h_S_

/-- The magnitudes of the column scales times one number. -/
def scaled (q : FVec Ideal S_ .bf16) : FVec Ideal S6912 .f32 :=
  mulf (Host.absf s) (broadcastInDim S6912 ![] Facts.bcast_S_S6912 (extf .f32 q Facts.bitsLt_bf16_f32))
theorem scaled_apply (q : FVec Ideal S_ .bf16) (j : S6912.Idx) : scaled s q j = max (s j) (-(s j)) * q (fun a : Fin 0 => a.elim0) := by
  show max (s j) (-(s j)) * q _ = _
  exact congrArg (fun k => max (s j) (-(s j)) * q k) (funext fun a : Fin 0 => a.elim0)

theorem le_top (i : S2x1024x5120.Idx) (j : S_.Idx) : max (x i) (-(x i)) ≤ top x j := by
  unfold top
  rw [Host.reduce_eq_foldl]
  have key : ∀ (l : List S2x1024x5120.Idx) (b : EReal), b ≤ l.foldl (fun r i => max r (max (x i) (-(x i)))) b
      ∧ ∀ i ∈ l, max (x i) (-(x i)) ≤ l.foldl (fun r i => max r (max (x i) (-(x i)))) b := by
    intro l
    induction l with
    | nil => intro b; exact ⟨le_refl b, fun i hi => absurd hi (by simp)⟩
    | cons a l ih =>
      intro b
      obtain ⟨h1, h2⟩ := ih (max b (max (x a) (-(x a))))
      refine ⟨(le_max_left _ _).trans h1, fun i hi => ?_⟩
      rcases List.mem_cons.mp hi with rfl | hi
      · exact (le_max_right _ _).trans h1
      · exact h2 i hi
  refine (key _ _).2 i ?_
  rw [List.mem_filter]
  refine ⟨List.mem_map.2 ⟨S2x1024x5120.rowMajor i, List.mem_finRange _, Equiv.symm_apply_apply _ _⟩, ?_⟩
  rw [decide_eq_true_iff]
  funext a; exact a.elim0

theorem x_bd (h : (fn x w s wd sd).1 = fun _ => 1#1) (i : S2x1024x5120.Idx) : Bd (x i) (255 * (2 : ℝ) ^ (120 : ℤ)) := by
  refine Bd.of_abs ?_
  rw [← big_x]
  exact of_ole _ _ h i
theorem s_bd (h : (fn x w s wd sd).2.1 = fun _ => 1#1) : ∃ b : ℝ, ∀ j : S6912.Idx, Bd (s j) b := by
  obtain ⟨b, hb⟩ := big_s
  refine ⟨b, fun j => Bd.of_abs ?_⟩
  rw [← hb]
  exact of_ole _ _ h j
theorem xs_bd (h0 : (fn x w s wd sd).1 = fun _ => 1#1) (h1 : (fn x w s wd sd).2.1 = fun _ => 1#1) (h : (fn x w s wd sd).2.2.1 = fun _ => 1#1) (i : S2x1024x5120.Idx) (j : S6912.Idx) :
    Bd (x i * s j) ((2 : ℝ) ^ 45) := by
  obtain ⟨b, hb⟩ := s_bd x w s wd sd h1
  obtain ⟨sr, hs, -⟩ := hb j
  obtain ⟨xr, hx, -⟩ := x_bd x w s wd sd h0 i
  have e : max (s j) (-(s j)) * top x (fun a => a.elim0) ≤ ((2 : ℝ) ^ 45 : ℝ) := by
    rw [← big_xs, ← scaled_apply]
    exact of_ole (scaled s (top x)) (broadcastInDim S6912 ![] Facts.bcast_S_S6912 (constant S_ .f32 0x56000000#32)) h j
  have m := le_top x i (fun a => a.elim0)
  rw [hs, Model.coe_abs] at e
  rw [hx, Model.coe_abs] at m
  have c : ((|sr| : ℝ) : EReal) * ((|xr| : ℝ) : EReal) ≤ ((2 : ℝ) ^ 45 : ℝ) :=
    (mul_le_mul_of_nonneg_left m (by rw [EReal.coe_nonneg]; exact abs_nonneg sr)).trans e
  refine ⟨xr * sr, by rw [hx, hs, EReal.coe_mul], ?_⟩
  rw [← EReal.coe_mul, EReal.coe_le_coe_iff] at c
  rw [abs_mul, mul_comm]; exact c
theorem w_bd (h : (fn x w s wd sd).2.2.2 = fun _ => 1#1) (i : S6912x5120.Idx) : Bd (Ideal.ofBits .fp8e4m3 (w i)) 448 := by
  have e : IntOp.andi (IntOp.cmpi .ne (w i) 127#8) (IntOp.cmpi .ne (w i) 255#8) = 1#1 := congrFun h i
  have k : ∀ b : BitVec 8, IntOp.andi (IntOp.cmpi .ne b 127#8) (IntOp.cmpi .ne b 255#8) = 1#1 → b ≠ 127#8 ∧ b ≠ 255#8 := by decide +kernel
  obtain ⟨a, b⟩ := k _ e
  exact Model.code_bd _ a b
end

/-! ## On the kernel's arguments -/

open Cert.KernelIdeal.Result in
/-- Under the precondition the two choices of scale agree on every row of x and on every row of activations. -/
theorem agree (m : (ℓ : Loc Cert.KernelIdeal.nD Cert.KernelIdeal.τ Cert.KernelIdeal.sig) → Buf (Elt Ideal) ℓ)
    (h : Cert.Pre_KernelIdeal_within_range (hPre_within_range := Cert.Pre_within_range.Gen.facts) m) (c : Dev Cert.KernelIdeal.nD) (r : Fin 2048) :
    Agree (X m c r) ∧ Agree (H m c r) := by
  letI := Cert.Pre_within_range.Gen.facts
  obtain ⟨h0, h1, h2, h3⟩ := h c
  have hx (d : Fin 5120) : Bd (X m c r d) (255 * (2 : ℝ) ^ (120 : ℤ)) := x_bd _ _ _ _ _ h0 _
  have hw (j : Fin 6912) (d : Fin 5120) : Bd (W m c j d) 448 := w_bd _ _ _ _ _ h3 _
  obtain ⟨b, hb⟩ := s_bd _ _ _ _ _ h1
  have hs (j : Fin 6912) : Bd (S m c j) b := hb _
  have hxs (d : Fin 5120) (j : Fin 6912) : Bd (X m c r d * S m c j) ((2 : ℝ) ^ 45) := xs_bd _ _ _ _ _ h0 h1 h2 _ _
  have ha : Agree (X m c r) := Model.agree_of (by norm_num) _ _ hx (by norm_num)
  exact ⟨ha, Model.act_agree hx ha hw hs hxs⟩

end Cert.Within

end
-- ==== Proof.RefScale.lean ====
/- The reference's exponents, scales and quotients at an index, over the extended reals. -/
module

public import proofs.«01_k».proof.Proof.Gen.ReferenceIdeal.Skeleton
public import Idealize.ShloMosaic.Lib.Pointwise

@[expose] public section
set_option maxRecDepth 16384
noncomputable section
namespace Cert.ReferenceIdeal.Scale
open Cert.ReferenceIdeal Cert.ReferenceIdeal.Gen Idealize.ShloMosaic

/-- The candidate exponents of a column of row quotients: `k - 125` where the quotient is under its power, else 128. -/
def cand (v7 : FVec Ideal S2048x1 .f32) : IVec S2048x256 32 :=
  have v8 : IVec S1x256 32 := iota .tc S1x256 32 [1] iota_S1x256_d1_w32
  have v9 : IVec S1x256 32 := broadcast S1x256 125#32
  have v10 : IVec S1x256 32 := subi v8 v9
  have v11 : FVec Ideal S1x256 .f32 := sitofp .f32 v10
  have v12 : FVec Ideal S1x256 .f32 := exp2 v11
  have v13 : FVec Ideal S2048x256 .f32 := broadcastTo S2048x256 v7 broadcasts_S2048x1_S2048x256
  have v14 : FVec Ideal S2048x256 .f32 := broadcastTo S2048x256 v12 broadcasts_S1x256_S2048x256
  have v15 : IVec S2048x256 1 := cmpf .olt v13 v14
  have v16 : IVec S1x256 32 := shapeCast S1x256 v10 shapeCasts_S1x256_S1x256
  have v17 : IVec S2048x256 32 := broadcastTo S2048x256 v16 broadcasts_S1x256_S2048x256
  have v18 : IVec S2048x256 32 := broadcast S2048x256 128#32
  have v19 : IVec S2048x256 32 := select v15 v17 v18
  v19

/-- The exponent of each row: zero where the quotient is under the least normal power, else the given least candidate. -/
def pick (v7 : FVec Ideal S2048x1 .f32) (v21 : IVec S2048x1 32) : FVec Ideal S2048x1 .f32 :=
  have cst_3 : Ideal .f32 := Scalar.ofBits .f32 0x00800000#32
  have v22 : FVec Ideal S2048x1 .f32 := broadcast S2048x1 cst_3
  have v23 : IVec S2048x1 1 := cmpf .olt v7 v22
  have v24 : IVec S2048x1 32 := broadcast S2048x1 0#32
  have v25 : IVec S2048x1 32 := select v23 v24 v21
  have v26 : FVec Ideal S2048x1 .f32 := sitofp .f32 v25
  v26

def least (v : IVec S2048x256 32) : IVec S2048x1 32 :=
  shapeCast S2048x1 (multiReductionI .minsi [1] S2048 v 2147483647#32 reduces_S2048x256_S2048 rfl) shapeCasts_S2048_S2048x1

/-- The row quotients: the greatest magnitude of each row times the float nearest 1/448. -/
def quo (v3 : FVec Ideal S2048x5120 .f32) : FVec Ideal S2048x1 .f32 :=
  mulf (shapeCast S2048x1 (multiReduction .maximumf [1] S2048 v3 0xFF800000#32 reduces_S2048x5120_S2048 (.inl rfl) rfl) shapeCasts_S2048_S2048x1)
    (broadcast S2048x1 (Scalar.ofBits .f32 0x3B124925#32))
def quoH (v3 : FVec Ideal S2048x3456 .f32) : FVec Ideal S2048x1 .f32 :=
  mulf (shapeCast S2048x1 (multiReduction .maximumf [1] S2048 v3 0xFF800000#32 reduces_S2048x3456_S2048 (.inl rfl) rfl) shapeCasts_S2048_S2048x1)
    (broadcast S2048x1 (Scalar.ofBits .f32 0x3B124925#32))

theorem pay3_eq (x : Vec Ideal S2048x5120 .bf16) :
    k0_pay3 x = pick (quo (absf (k0_pay2 x))) (least (cand (quo (absf (k0_pay2 x))))) := rfl
theorem pay8_eq (v : FVec Ideal S2048x6912 .f32) (s : Vec Ideal S1x6912 .f32) :
    k0_pay8 v s = pick (quoH (absf (k0_pay7 v s))) (least (cand (quoH (absf (k0_pay7 v s))))) := rfl

theorem least_apply (v : IVec S2048x256 32) (r : Fin 2048) :
    least v (ix2 r 0) = Finset.univ.fold IntOp.minsi (2147483647#32) (fun k : Fin 256 => v (ix2 r k)) := by
  pointwise [least]
theorem mulf_at {s : Shape} {φ : FTy} (a b : FVec Ideal s φ) (i : s.Idx) : mulf a b i = a i * b i := rfl
theorem const_at {s : Shape} {φ : FTy} (w : BitVec φ.bits) (i : s.Idx) : broadcast s (Scalar.ofBits (F := Ideal) φ w) i = Ideal.ofBits φ w := rfl

/-- The greatest magnitude of each row. -/
theorem top_apply (v : FVec Ideal S2048x5120 .f32) (r : Fin 2048) :
    (shapeCast S2048x1 (multiReduction .maximumf [1] S2048 v 0xFF800000#32 reduces_S2048x5120_S2048 (.inl rfl) rfl) shapeCasts_S2048_S2048x1) (ix2 r 0)
      = Finset.univ.fold max (Ideal.ofBits .f32 0xFF800000#32) (fun k : Fin 5120 => v (ix2 r k)) := by
  pointwise
theorem topH_apply (v : FVec Ideal S2048x3456 .f32) (r : Fin 2048) :
    (shapeCast S2048x1 (multiReduction .maximumf [1] S2048 v 0xFF800000#32 reduces_S2048x3456_S2048 (.inl rfl) rfl) shapeCasts_S2048_S2048x1) (ix2 r 0)
      = Finset.univ.fold max (Ideal.ofBits .f32 0xFF800000#32) (fun k : Fin 3456 => v (ix2 r k)) := by
  pointwise
theorem quo_apply (v : FVec Ideal S2048x5120 .f32) (r : Fin 2048) :
    quo v (ix2 r 0) = Finset.univ.fold max (Ideal.ofBits .f32 0xFF800000#32) (fun k : Fin 5120 => v (ix2 r k)) * Ideal.ofBits .f32 0x3B124925#32 := by
  unfold quo
  rw [mulf_at, const_at, top_apply]
theorem quoH_apply (v : FVec Ideal S2048x3456 .f32) (r : Fin 2048) :
    quoH v (ix2 r 0) = Finset.univ.fold max (Ideal.ofBits .f32 0xFF800000#32) (fun k : Fin 3456 => v (ix2 r k)) * Ideal.ofBits .f32 0x3B124925#32 := by
  unfold quoH
  rw [mulf_at, const_at, topH_apply]
theorem cand_apply (q : FVec Ideal S2048x1 .f32) (r : Fin 2048) (k : Fin 256) :
    cand q (ix2 r k) = if q (ix2 r 0) < Ideal.exp2 (((IntOp.subi (BitVec.ofNat 32 k) 125#32).toInt : ℝ) : EReal) then IntOp.subi (BitVec.ofNat 32 k) 125#32 else 128#32 := by
  pointwise [cand]
  rfl
theorem pick_apply (q : FVec Ideal S2048x1 .f32) (w : IVec S2048x1 32) (r : Fin 2048) :
    pick q w (ix2 r 0) = (((if q (ix2 r 0) < Ideal.ofBits .f32 0x00800000#32 then 0#32 else w (ix2 r 0)).toInt : ℝ) : EReal) := by
  pointwise [pick]
  rfl
end Cert.ReferenceIdeal.Scale
end
-- ==== Proof.RefPay.lean ====
/- The reference's arrays at an index, over the extended reals, as the row functions of `Model` at the reference's choice of
   scale. -/
module

public import proofs.«01_k».proof.Proof.RefScale
public import proofs.«01_k».proof.Proof.Scale
public import proofs.«01_k».proof.Proof.Model

@[expose] public section

set_option maxRecDepth 16384

noncomputable section

namespace Cert.ReferenceIdeal.Pay

open Cert.ReferenceIdeal Cert.ReferenceIdeal.Gen Cert.ReferenceIdeal.Scale Idealize.ShloMosaic
open Cert.Scale (rscale rinv rexp)

theorem bot32 : Ideal.ofBits .f32 0xFF800000#32 = ⊥ := by
  simp [Ideal.ofBits, Ideal.ieee]
theorem zero32 : Ideal.ofBits .f32 0x00000000#32 = 0 := by
  simp [Ideal.ofBits, Ideal.ieee]

/-- The exponent, the scale and the codes of a row of `x`. -/
theorem quo_x (x : Vec Ideal S2048x5120 .bf16) (r : Fin 2048) :
    quo (absf (k0_pay2 x)) (ix2 r 0) = Model.quo fun d => x (ix2 r d) := by
  have h (k : Fin 5120) : absf (k0_pay2 x) (ix2 r k) = max (x (ix2 r k)) (-(x (ix2 r k))) := by
    pointwise [k0_pay2]
    rfl
  rw [quo_apply, bot32]
  simp only [h]
  rfl
theorem pay3_apply (x : Vec Ideal S2048x5120 .bf16) (r : Fin 2048) :
    k0_pay3 x (ix2 r 0) = rexp (Model.quo fun d => x (ix2 r d)) := by
  rw [pay3_eq, pick_apply, least_apply]
  simp only [cand_apply]
  rw [quo_x]; rfl
theorem pay4_apply (x : Vec Ideal S2048x5120 .bf16) (r : Fin 2048) :
    k0_pay4 x (ix2 r 0) = rscale (Model.quo fun d => x (ix2 r d)) := by
  unfold rscale
  rw [← pay3_apply]; rfl
theorem pay5_apply (x : Vec Ideal S2048x5120 .bf16) (r : Fin 2048) (d : Fin 5120) :
    k0_pay5 x (ix2 r d) = Model.code rinv (fun d => x (ix2 r d)) d := by
  have h : k0_pay5 x (ix2 r d) = Model.clip (x (ix2 r d) * Ideal.exp2 (Ideal.ofBits .f32 0x00000000#32 - k0_pay3 x (ix2 r 0))) := by
    pointwise [k0_pay5, k0_pay2]
    rfl
  rw [h, pay3_apply, zero32]; rfl

/-- The gate and up projections before the column scales. -/
theorem pay6_apply (x : Vec Ideal S2048x5120 .bf16) (w : Vec Ideal S6912x5120 .fp8e4m3) (r : Fin 2048) (j : Fin 6912) :
    k0_pay6 x w (ix2 r j) = (∑ d : Fin 5120, Model.code rinv (fun d => x (ix2 r d)) d * w (ix2 j d)) * rscale (Model.quo fun d => x (ix2 r d)) := by
  have h : k0_pay6 x w (ix2 r j) = (∑ d : Fin 5120, k0_pay5 x (ix2 r d) * w (ix2 j d)) * k0_pay4 x (ix2 r 0) := by
    pointwise [k0_pay6]
  rw [h, pay4_apply]
  simp only [pay5_apply]

/-- The activations. -/
theorem pay7_at (v : FVec Ideal S2048x6912 .f32) (s : Vec Ideal S1x6912 .f32) (r : Fin 2048) (n : Fin 3456) :
    k0_pay7 v s (ix2 r n) = (v (ix2 r (Model.gate n)) * s (ix2 0 (Model.gate n))) * Ideal.logistic (v (ix2 r (Model.gate n)) * s (ix2 0 (Model.gate n)))
      * (v (ix2 r (Model.up n)) * s (ix2 0 (Model.up n))) := by
  pointwise [k0_pay7]
  rfl
theorem quo_h (v : FVec Ideal S2048x6912 .f32) (s : Vec Ideal S1x6912 .f32) (r : Fin 2048) :
    quoH (absf (k0_pay7 v s)) (ix2 r 0) = Model.quo fun n => k0_pay7 v s (ix2 r n) := by
  rw [quoH_apply, bot32]
  rfl
theorem pay8_apply (v : FVec Ideal S2048x6912 .f32) (s : Vec Ideal S1x6912 .f32) (r : Fin 2048) :
    k0_pay8 v s (ix2 r 0) = rexp (Model.quo fun n => k0_pay7 v s (ix2 r n)) := by
  rw [pay8_eq, pick_apply, least_apply]
  simp only [cand_apply]
  rw [quo_h]; rfl
theorem pay9_apply (v : FVec Ideal S2048x6912 .f32) (s : Vec Ideal S1x6912 .f32) (r : Fin 2048) :
    k0_pay9 v s (ix2 r 0) = rscale (Model.quo fun n => k0_pay7 v s (ix2 r n)) := by
  unfold rscale
  rw [← pay8_apply]; rfl
theorem pay10_apply (v : FVec Ideal S2048x6912 .f32) (s : Vec Ideal S1x6912 .f32) (r : Fin 2048) (n : Fin 3456) :
    k0_pay10 v s (ix2 r n) = Model.code rinv (fun n => k0_pay7 v s (ix2 r n)) n := by
  have h : k0_pay10 v s (ix2 r n) = Model.clip (k0_pay7 v s (ix2 r n) * Ideal.exp2 (Ideal.ofBits .f32 0x00000000#32 - k0_pay8 v s (ix2 r 0))) := by
    pointwise [k0_pay10]
    rfl
  rw [h, pay8_apply, zero32]; rfl

/-- The result. -/
theorem pay1_apply (v : FVec Ideal S2048x6912 .f32) (s : Vec Ideal S1x6912 .f32) (wd : Vec Ideal S5120x3456 .fp8e4m3) (sd : Vec Ideal S1x5120 .f32)
    (r : Fin 2048) (j : Fin 5120) :
    k0_pay1 (k0_pay11 v s wd) (k0_pay12 v s) sd (ix2 r j)
      = Model.down rscale rinv (fun n => k0_pay7 v s (ix2 r n)) (fun j n => wd (ix2 j n)) (fun j => sd (ix2 0 j)) j := by
  have h : k0_pay1 (k0_pay11 v s wd) (k0_pay12 v s) sd (ix2 r j)
      = (∑ n : Fin 3456, k0_pay10 v s (ix2 r n) * wd (ix2 j n)) * k0_pay9 v s (ix2 r 0) * sd (ix2 0 j) := by
    pointwise [k0_pay1, k0_pay11, k0_pay12]
  rw [h, pay9_apply]
  simp only [pay10_apply]
  rfl

/-- A row of activations as the model's. -/
theorem act_row (x : Vec Ideal S2048x5120 .bf16) (w : Vec Ideal S6912x5120 .fp8e4m3) (s : Vec Ideal S1x6912 .f32) (r : Fin 2048) :
    (fun n => k0_pay7 (k0_pay6 x w) s (ix2 r n))
      = Model.act rscale rinv (fun d => x (ix2 r d)) (fun j d => w (ix2 j d)) (fun j => s (ix2 0 j)) := by
  funext n
  rw [pay7_at, pay6_apply, pay6_apply]
  rfl

end Cert.ReferenceIdeal.Pay

end
-- ==== Proof.RefValue.lean ====
/- What the reference's one call leaves in the five result arrays, over the extended reals: the row functions of `Model` at the
   reference's choice of scale, read off the arguments as launched. -/
module

public import proofs.«01_k».proof.Proof.RefPay
public import proofs.«01_k».proof.Proof.Gen.ReferenceIdeal.Frame
public import Idealize.ShloMosaic.Lib.Pipeline.Value

@[expose] public section

set_option maxRecDepth 16384

noncomputable section

namespace Cert.ReferenceIdeal.Result

open Cert.ReferenceIdeal Cert.ReferenceIdeal.Gen Cert.ReferenceIdeal.Pay
open Idealize.ShloMosaic Idealize.ShloMosaic.TcCoe Idealize.SL.Sem
open Idealize.ShloMosaic.Pipeline (Dat)
open Cert.Scale (rscale rinv)

variable (m : (ℓ : Loc nD τ sig) → Buf (Elt Ideal) ℓ) (ρ : Dev nD → PrngReg)

/-! ## The arguments' rows -/

abbrev X (c : Dev nD) := Model.xs (m ((c : Thread nD τ).loc main_arg0))
abbrev W (c : Dev nD) := Model.ws (m ((c : Thread nD τ).loc main_arg1))
abbrev S (c : Dev nD) := Model.ss (m ((c : Thread nD τ).loc main_arg2))
abbrev WD (c : Dev nD) := Model.wds (m ((c : Thread nD τ).loc main_arg3))
abbrev SD (c : Dev nD) := Model.sds (m ((c : Thread nD τ).loc main_arg4))
abbrev H (c : Dev nD) (r : Fin 2048) := Model.act rscale rinv (X m c r) (W m c) (S m c)

/-- The five arrays. -/
def xcVal (c : Dev nD) : Vec Ideal S2048x5120 .fp8e4m3 := fun i => Model.code rinv (X m c (i 0)) (i 1)
@[inherit_doc xcVal] def xsVal (c : Dev nD) : Vec Ideal S2048x1 .f32 := fun i => rscale (Model.quo (X m c (i 0)))
@[inherit_doc xcVal] def hcVal (c : Dev nD) : Vec Ideal S2048x3456 .fp8e4m3 := fun i => Model.code rinv (H m c (i 0)) (i 1)
@[inherit_doc xcVal] def hsVal (c : Dev nD) : Vec Ideal S2048x1 .f32 := fun i => rscale (Model.quo (H m c (i 0)))
@[inherit_doc xcVal] def outVal (c : Dev nD) : Vec Ideal S2048x5120 .bf16 := fun i => Model.down rscale rinv (H m c (i 0)) (WD m c) (SD m c) (i 1)

theorem hz : (![0, 0] : Fin 2 → Nat) = fun _ => 0 := funext fun a => by fin_cases a <;> rfl

/-- Each load is of a whole block. -/
theorem ld_0 (x : Vec Ideal S2048x5120 .bf16) : View.ld x r0_0 = x := View.ld_unit_zero hz _ _
theorem ld_1 (x : Vec Ideal S6912x5120 .fp8e4m3) : View.ld x r0_1 = x := View.ld_unit_zero hz _ _
theorem ld_2 (x : Vec Ideal S1x6912 .f32) : View.ld x r0_2 = x := View.ld_unit_zero hz _ _
theorem ld_3 (x : Vec Ideal S5120x3456 .fp8e4m3) : View.ld x r0_3 = x := View.ld_unit_zero hz _ _
theorem ld_4 (x : Vec Ideal S1x5120 .f32) : View.ld x r0_4 = x := View.ld_unit_zero hz _ _

/-! ## What the call finds in the arrays it reads -/

/-- The host's reshapes at an index. -/
theorem cast_x (a : FVec Ideal S2x1024x5120 .bf16) (r : Fin 2048) (d : Fin 5120) :
    shapeCast S2048x5120 a shapeCasts_S2x1024x5120_S2048x5120 (ix2 r d) = Model.xs a r d := by
  pointwise
  rfl
@[inherit_doc cast_x] theorem cast_s (a : FVec Ideal S6912 .f32) (j : Fin 6912) :
    shapeCast S1x6912 a shapeCasts_S6912_S1x6912 (ix2 0 j) = Model.ss a j := by
  pointwise
  rfl
@[inherit_doc cast_x] theorem cast_sd (a : FVec Ideal S5120 .f32) (j : Fin 5120) :
    shapeCast S1x5120 a shapeCasts_S5120_S1x5120 (ix2 0 j) = Model.sds a j := by
  pointwise
  rfl

theorem V_x (c : Dev nD) (r : Fin 2048) (d : Fin 5120) : V m c main_v1 (ix2 r d : S2048x5120.Idx) = X m c r d := by
  have h : (V m c main_v1 : FVec Ideal S2048x5120 .bf16) = shapeCast S2048x5120 (m ((c : Thread nD τ).loc main_arg0) : FVec Ideal S2x1024x5120 .bf16) shapeCasts_S2x1024x5120_S2048x5120 := by
    unfold V
    after_results
    rfl
  rw [h]
  exact cast_x _ r d
theorem V_w (c : Dev nD) (j : Fin 6912) (d : Fin 5120) : V m c main_v0 (ix2 j d : S6912x5120.Idx) = W m c j d := by
  have h : (V m c main_v0 : FVec Ideal S6912x5120 .fp8e4m3) = (bitcastToFloat .fp8e4m3 (m ((c : Thread nD τ).loc main_arg1) : IVec S6912x5120 8) : FVec Ideal S6912x5120 .fp8e4m3) := by
    unfold V
    after_results
  rw [h]
  rfl
theorem V_s (c : Dev nD) (j : Fin 6912) : V m c main_v2 (ix2 0 j : S1x6912.Idx) = S m c j := by
  have h : (V m c main_v2 : FVec Ideal S1x6912 .f32) = shapeCast S1x6912 (m ((c : Thread nD τ).loc main_arg2) : FVec Ideal S6912 .f32) shapeCasts_S6912_S1x6912 := by
    unfold V
    after_results
    rfl
  rw [h]
  exact cast_s _ j
theorem V_sd (c : Dev nD) (j : Fin 5120) : V m c main_v3 (ix2 0 j : S1x5120.Idx) = SD m c j := by
  have h : (V m c main_v3 : FVec Ideal S1x5120 .f32) = shapeCast S1x5120 (m ((c : Thread nD τ).loc main_arg4) : FVec Ideal S5120 .f32) shapeCasts_S5120_S1x5120 := by
    unfold V
    after_results
    rfl
  rw [h]
  exact cast_sd _ j

/-! ## The windows: one point, each block the whole array -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem emb0 (t : Fin cfg0.N) (r : Fin 2048) (d : Fin 5120) :
    ((cfg0.win 0).blk t).view.emb (ix2 r d : S2048x5120.Idx) = (ix2 r d : S2048x5120.Idx) := by
  obtain ⟨e0, e1⟩ := idx0 t
  funext a; apply Fin.ext
  match a with
  | ⟨0, _⟩ => show win0_0.index t (0 : Fin 2) * 2048 + 1 * r.val = r.val; omega
  | ⟨1, _⟩ => show win0_0.index t (1 : Fin 2) * 5120 + 1 * d.val = d.val; omega
theorem emb1 (t : Fin cfg0.N) (r : Fin 6912) (d : Fin 5120) :
    ((cfg0.win 1).blk t).view.emb (ix2 r d : S6912x5120.Idx) = (ix2 r d : S6912x5120.Idx) := by
  obtain ⟨e0, e1⟩ := idx1 t
  funext a; apply Fin.ext
  match a with
  | ⟨0, _⟩ => show win0_1.index t (0 : Fin 2) * 6912 + 1 * r.val = r.val; omega
  | ⟨1, _⟩ => show win0_1.index t (1 : Fin 2) * 5120 + 1 * d.val = d.val; omega
theorem emb2 (t : Fin cfg0.N) (d : Fin 6912) :
    ((cfg0.win 2).blk t).view.emb (ix2 0 d : S1x6912.Idx) = (ix2 0 d : S1x6912.Idx) := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 6912 + 1 * d.val = d.val; omega
theorem emb3 (t : Fin cfg0.N) (r : Fin 5120) (d : Fin 3456) :
    ((cfg0.win 3).blk t).view.emb (ix2 r d : S5120x3456.Idx) = (ix2 r d : S5120x3456.Idx) := by
  obtain ⟨e0, e1⟩ := idx3 t
  funext a; apply Fin.ext
  match a with
  | ⟨0, _⟩ => show win0_3.index t (0 : Fin 2) * 5120 + 1 * r.val = r.val; omega
  | ⟨1, _⟩ => show win0_3.index t (1 : Fin 2) * 3456 + 1 * d.val = d.val; omega
theorem emb4 (t : Fin cfg0.N) (d : Fin 5120) :
    ((cfg0.win 4).blk t).view.emb (ix2 0 d : S1x5120.Idx) = (ix2 0 d : S1x5120.Idx) := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 5120 + 1 * d.val = d.val; omega
theorem emb5 (t : Fin cfg0.N) (r : Fin 2048) (d : Fin 5120) :
    ((cfg0.win 5).blk t).view.emb (ix2 r d : S2048x5120.Idx) = (ix2 r d : S2048x5120.Idx) := by
  obtain ⟨e0, e1⟩ := idx5 t
  funext a; apply Fin.ext
  match a with
  | ⟨0, _⟩ => show win0_5.index t (0 : Fin 2) * 2048 + 1 * r.val = r.val; omega
  | ⟨1, _⟩ => show win0_5.index t (1 : Fin 2) * 5120 + 1 * d.val = d.val; omega
theorem emb6 (t : Fin cfg0.N) (r : Fin 2048) (d : Fin 5120) :
    ((cfg0.win 6).blk t).view.emb (ix2 r d : S2048x5120.Idx) = (ix2 r d : S2048x5120.Idx) := by
  obtain ⟨e0, e1⟩ := idx6 t
  funext a; apply Fin.ext
  match a with
  | ⟨0, _⟩ => show win0_6.index t (0 : Fin 2) * 2048 + 1 * r.val = r.val; omega
  | ⟨1, _⟩ => show win0_6.index t (1 : Fin 2) * 5120 + 1 * d.val = d.val; omega
theorem emb7 (t : Fin cfg0.N) (r : Fin 2048) :
    ((cfg0.win 7).blk t).view.emb (ix2 r 0 : S2048x1.Idx) = (ix2 r 0 : S2048x1.Idx) := by
  obtain ⟨e0, e1⟩ := idx7 t
  funext a; apply Fin.ext
  match a with
  | ⟨0, _⟩ => show win0_7.index t (0 : Fin 2) * 2048 + 1 * r.val = r.val; omega
  | ⟨1, _⟩ => show win0_7.index t (1 : Fin 2) * 1 + 1 * 0 = 0; omega
theorem emb8 (t : Fin cfg0.N) (r : Fin 2048) (d : Fin 3456) :
    ((cfg0.win 8).blk t).view.emb (ix2 r d : S2048x3456.Idx) = (ix2 r d : S2048x3456.Idx) := by
  obtain ⟨e0, e1⟩ := idx8 t
  funext a; apply Fin.ext
  match a with
  | ⟨0, _⟩ => show win0_8.index t (0 : Fin 2) * 2048 + 1 * r.val = r.val; omega
  | ⟨1, _⟩ => show win0_8.index t (1 : Fin 2) * 3456 + 1 * d.val = d.val; omega
theorem emb9 (t : Fin cfg0.N) (r : Fin 2048) :
    ((cfg0.win 9).blk t).view.emb (ix2 r 0 : S2048x1.Idx) = (ix2 r 0 : S2048x1.Idx) := by
  obtain ⟨e0, e1⟩ := idx9 t
  funext a; apply Fin.ext
  match a with
  | ⟨0, _⟩ => show win0_9.index t (0 : Fin 2) * 2048 + 1 * r.val = r.val; omega
  | ⟨1, _⟩ => show win0_9.index t (1 : Fin 2) * 1 + 1 * 0 = 0; omega

/-- The blocks read, as rows of the arguments. -/
theorem iblk0 (c : Dev nD) (t : Fin cfg0.N) (r : Fin 2048) : (fun d : Fin 5120 => iblk m c 0 t (ix2 r d : S2048x5120.Idx)) = X m c r := by
  funext d
  show V m c main_v1 (((cfg0.win 0).blk t).view.emb (ix2 r d : S2048x5120.Idx)) = _
  rw [emb0, V_x]
theorem iblk1 (c : Dev nD) (t : Fin cfg0.N)  : (fun (r : Fin 6912) (d : Fin 5120) => iblk m c 1 t (ix2 r d : S6912x5120.Idx)) = W m c := by
  funext r d
  show V m c main_v0 (((cfg0.win 1).blk t).view.emb (ix2 r d : S6912x5120.Idx)) = _
  rw [emb1, V_w]
theorem iblk2 (c : Dev nD) (t : Fin cfg0.N)  : (fun d : Fin 6912 => iblk m c 2 t (ix2 0 d : S1x6912.Idx)) = S m c := by
  funext d
  show V m c main_v2 (((cfg0.win 2).blk t).view.emb (ix2 0 d : S1x6912.Idx)) = _
  rw [emb2, V_s]
theorem iblk3 (c : Dev nD) (t : Fin cfg0.N)  : (fun (r : Fin 5120) (d : Fin 3456) => iblk m c 3 t (ix2 r d : S5120x3456.Idx)) = WD m c := by
  funext r d
  show V m c main_arg3 (((cfg0.win 3).blk t).view.emb (ix2 r d : S5120x3456.Idx)) = _
  rw [emb3, V_main_arg3]
  rfl
theorem iblk4 (c : Dev nD) (t : Fin cfg0.N)  : (fun d : Fin 5120 => iblk m c 4 t (ix2 0 d : S1x5120.Idx)) = SD m c := by
  funext d
  show V m c main_v3 (((cfg0.win 4).blk t).view.emb (ix2 0 d : S1x5120.Idx)) = _
  rw [emb4, V_sd]

/-- A row of the activations the call computes. -/
theorem act_at (c : Dev nD) (t : Fin cfg0.N) (r : Fin 2048) :
    (fun n : Fin 3456 => k0_pay7 (F := Ideal) (k0_pay6 (iblk m c 0 t) (iblk m c 1 t)) (iblk m c 2 t) (ix2 r n)) = H m c r := by
  refine (act_row _ _ _ r).trans ?_
  unfold H
  rw [iblk0, iblk1, iblk2]

/-! ## The five arrays -/

theorem out5 (c : Dev nD) (t : Fin cfg0.N) : out0_5 (F := Ideal) (iblk m c 0 t) (iblk m c 1 t) (iblk m c 2 t) (iblk m c 3 t) (iblk m c 4 t) = k0_pay1 (k0_pay11 (k0_pay6 (iblk m c 0 t) (iblk m c 1 t)) (iblk m c 2 t) (iblk m c 3 t)) (k0_pay12 (k0_pay6 (iblk m c 0 t) (iblk m c 1 t)) (iblk m c 2 t)) (iblk m c 4 t) := by
  unfold out0_5
  rw [View.canon_unit_zero hz]
  simp only [k0_pay13, ld_0, ld_1, ld_2, ld_3, ld_4]
theorem flushed5 (c : Dev nD) (t : Fin cfg0.N) :
    (dats m 0 c).flushed 5 t = ((cfg0.win 5).blk t).view.read (Elt Ideal) (outVal m c) := by
  show (cfg0.win 5).cut (grid0.coords t) ((dats m 0 c).after 5 t) = _
  rw [after0_5, out5]
  funext i
  obtain ⟨r, d, rfl⟩ : ∃ (r : Fin 2048) (d : Fin 5120), i = (ix2 r d : S2048x5120.Idx) := ⟨i 0, i 1, eq_ix2 i⟩
  show k0_pay1 (k0_pay11 (k0_pay6 (iblk m c 0 t) (iblk m c 1 t)) (iblk m c 2 t) (iblk m c 3 t)) (k0_pay12 (k0_pay6 (iblk m c 0 t) (iblk m c 1 t)) (iblk m c 2 t)) (iblk m c 4 t) (ix2 r d) = outVal m c (((cfg0.win 5).blk t).view.emb (ix2 r d : S2048x5120.Idx))
  rw [emb5]
  refine (pay1_apply _ _ _ _ r d).trans ?_
  rw [act_at, iblk3, iblk4]; rfl
theorem cover5 (i : S2048x5120.Idx) : ∃ t : Fin cfg0.N, (cfg0.win 5).flush t = true ∧ i ∈ ((cfg0.win 5).blk t).view.set := by
  obtain ⟨r, d, rfl⟩ : ∃ (r : Fin 2048) (d : Fin 5120), i = (ix2 r d : S2048x5120.Idx) := ⟨i 0, i 1, eq_ix2 i⟩
  have h := ((cfg0.win 5).blk t0_0).view.emb_mem_set (ix2 r d : S2048x5120.Idx)
  rw [emb5] at h
  exact ⟨t0_0, flush0_5 _, h⟩
theorem final5 (c : Dev nD) : (dats m 0 c).arrAt 5 cfg0.N = outVal m c :=
  (dats m 0 c).arrAt_eq_of_cover 5 (outVal m c) (fun t _ => flushed5 m c t) cover5

theorem out6 (c : Dev nD) (t : Fin cfg0.N) : out0_6 (F := Ideal) (iblk m c 0 t) (iblk m c 1 t) (iblk m c 2 t) (iblk m c 3 t) (iblk m c 4 t) = k0_pay5 (iblk m c 0 t) := by
  unfold out0_6
  rw [View.canon_unit_zero hz]
  simp only [k0_pay13, ld_0, ld_1, ld_2, ld_3, ld_4]
theorem flushed6 (c : Dev nD) (t : Fin cfg0.N) :
    (dats m 0 c).flushed 6 t = ((cfg0.win 6).blk t).view.read (Elt Ideal) (xcVal m c) := by
  show (cfg0.win 6).cut (grid0.coords t) ((dats m 0 c).after 6 t) = _
  rw [after0_6, out6]
  funext i
  obtain ⟨r, d, rfl⟩ : ∃ (r : Fin 2048) (d : Fin 5120), i = (ix2 r d : S2048x5120.Idx) := ⟨i 0, i 1, eq_ix2 i⟩
  show k0_pay5 (iblk m c 0 t) (ix2 r d) = xcVal m c (((cfg0.win 6).blk t).view.emb (ix2 r d : S2048x5120.Idx))
  rw [emb6]
  refine (pay5_apply _ r d).trans ?_
  rw [iblk0]; rfl
theorem cover6 (i : S2048x5120.Idx) : ∃ t : Fin cfg0.N, (cfg0.win 6).flush t = true ∧ i ∈ ((cfg0.win 6).blk t).view.set := by
  obtain ⟨r, d, rfl⟩ : ∃ (r : Fin 2048) (d : Fin 5120), i = (ix2 r d : S2048x5120.Idx) := ⟨i 0, i 1, eq_ix2 i⟩
  have h := ((cfg0.win 6).blk t0_0).view.emb_mem_set (ix2 r d : S2048x5120.Idx)
  rw [emb6] at h
  exact ⟨t0_0, flush0_6 _, h⟩
theorem final6 (c : Dev nD) : (dats m 0 c).arrAt 6 cfg0.N = xcVal m c :=
  (dats m 0 c).arrAt_eq_of_cover 6 (xcVal m c) (fun t _ => flushed6 m c t) cover6

theorem out7 (c : Dev nD) (t : Fin cfg0.N) : out0_7 (F := Ideal) (iblk m c 0 t) (iblk m c 1 t) (iblk m c 2 t) (iblk m c 3 t) (iblk m c 4 t) = k0_pay4 (iblk m c 0 t) := by
  unfold out0_7
  rw [View.canon_unit_zero hz]
  simp only [k0_pay13, ld_0, ld_1, ld_2, ld_3, ld_4]
theorem flushed7 (c : Dev nD) (t : Fin cfg0.N) :
    (dats m 0 c).flushed 7 t = ((cfg0.win 7).blk t).view.read (Elt Ideal) (xsVal m c) := by
  show (cfg0.win 7).cut (grid0.coords t) ((dats m 0 c).after 7 t) = _
  rw [after0_7, out7]
  funext i
  obtain ⟨r, rfl⟩ : ∃ r : Fin 2048, i = (ix2 r 0 : S2048x1.Idx) := ⟨i 0, (eq_ix2 i).trans (congrArg (ix2 (i 0)) (Subsingleton.elim (α := Fin 1) (i 1) 0))⟩
  show k0_pay4 (iblk m c 0 t) (ix2 r 0) = xsVal m c (((cfg0.win 7).blk t).view.emb (ix2 r 0 : S2048x1.Idx))
  rw [emb7]
  refine (pay4_apply _ r).trans ?_
  rw [iblk0]; rfl
theorem cover7 (i : S2048x1.Idx) : ∃ t : Fin cfg0.N, (cfg0.win 7).flush t = true ∧ i ∈ ((cfg0.win 7).blk t).view.set := by
  obtain ⟨r, rfl⟩ : ∃ r : Fin 2048, i = (ix2 r 0 : S2048x1.Idx) := ⟨i 0, (eq_ix2 i).trans (congrArg (ix2 (i 0)) (Subsingleton.elim (α := Fin 1) (i 1) 0))⟩
  have h := ((cfg0.win 7).blk t0_0).view.emb_mem_set (ix2 r 0 : S2048x1.Idx)
  rw [emb7] at h
  exact ⟨t0_0, flush0_7 _, h⟩
theorem final7 (c : Dev nD) : (dats m 0 c).arrAt 7 cfg0.N = xsVal m c :=
  (dats m 0 c).arrAt_eq_of_cover 7 (xsVal m c) (fun t _ => flushed7 m c t) cover7

theorem out8 (c : Dev nD) (t : Fin cfg0.N) : out0_8 (F := Ideal) (iblk m c 0 t) (iblk m c 1 t) (iblk m c 2 t) (iblk m c 3 t) (iblk m c 4 t) = k0_pay10 (k0_pay6 (iblk m c 0 t) (iblk m c 1 t)) (iblk m c 2 t) := by
  unfold out0_8
  rw [View.canon_unit_zero hz]
  simp only [k0_pay13, ld_0, ld_1, ld_2, ld_3, ld_4]
theorem flushed8 (c : Dev nD) (t : Fin cfg0.N) :
    (dats m 0 c).flushed 8 t = ((cfg0.win 8).blk t).view.read (Elt Ideal) (hcVal m c) := by
  show (cfg0.win 8).cut (grid0.coords t) ((dats m 0 c).after 8 t) = _
  rw [after0_8, out8]
  funext i
  obtain ⟨r, d, rfl⟩ : ∃ (r : Fin 2048) (d : Fin 3456), i = (ix2 r d : S2048x3456.Idx) := ⟨i 0, i 1, eq_ix2 i⟩
  show k0_pay10 (k0_pay6 (iblk m c 0 t) (iblk m c 1 t)) (iblk m c 2 t) (ix2 r d) = hcVal m c (((cfg0.win 8).blk t).view.emb (ix2 r d : S2048x3456.Idx))
  rw [emb8]
  refine (pay10_apply _ _ r d).trans ?_
  rw [act_at]; rfl
theorem cover8 (i : S2048x3456.Idx) : ∃ t : Fin cfg0.N, (cfg0.win 8).flush t = true ∧ i ∈ ((cfg0.win 8).blk t).view.set := by
  obtain ⟨r, d, rfl⟩ : ∃ (r : Fin 2048) (d : Fin 3456), i = (ix2 r d : S2048x3456.Idx) := ⟨i 0, i 1, eq_ix2 i⟩
  have h := ((cfg0.win 8).blk t0_0).view.emb_mem_set (ix2 r d : S2048x3456.Idx)
  rw [emb8] at h
  exact ⟨t0_0, flush0_8 _, h⟩
theorem final8 (c : Dev nD) : (dats m 0 c).arrAt 8 cfg0.N = hcVal m c :=
  (dats m 0 c).arrAt_eq_of_cover 8 (hcVal m c) (fun t _ => flushed8 m c t) cover8

theorem out9 (c : Dev nD) (t : Fin cfg0.N) : out0_9 (F := Ideal) (iblk m c 0 t) (iblk m c 1 t) (iblk m c 2 t) (iblk m c 3 t) (iblk m c 4 t) = k0_pay9 (k0_pay6 (iblk m c 0 t) (iblk m c 1 t)) (iblk m c 2 t) := by
  unfold out0_9
  rw [View.canon_unit_zero hz]
  simp only [k0_pay13, ld_0, ld_1, ld_2, ld_3, ld_4]
theorem flushed9 (c : Dev nD) (t : Fin cfg0.N) :
    (dats m 0 c).flushed 9 t = ((cfg0.win 9).blk t).view.read (Elt Ideal) (hsVal m c) := by
  show (cfg0.win 9).cut (grid0.coords t) ((dats m 0 c).after 9 t) = _
  rw [after0_9, out9]
  funext i
  obtain ⟨r, rfl⟩ : ∃ r : Fin 2048, i = (ix2 r 0 : S2048x1.Idx) := ⟨i 0, (eq_ix2 i).trans (congrArg (ix2 (i 0)) (Subsingleton.elim (α := Fin 1) (i 1) 0))⟩
  show k0_pay9 (k0_pay6 (iblk m c 0 t) (iblk m c 1 t)) (iblk m c 2 t) (ix2 r 0) = hsVal m c (((cfg0.win 9).blk t).view.emb (ix2 r 0 : S2048x1.Idx))
  rw [emb9]
  refine (pay9_apply _ _ r).trans ?_
  rw [act_at]; rfl
theorem cover9 (i : S2048x1.Idx) : ∃ t : Fin cfg0.N, (cfg0.win 9).flush t = true ∧ i ∈ ((cfg0.win 9).blk t).view.set := by
  obtain ⟨r, rfl⟩ : ∃ r : Fin 2048, i = (ix2 r 0 : S2048x1.Idx) := ⟨i 0, (eq_ix2 i).trans (congrArg (ix2 (i 0)) (Subsingleton.elim (α := Fin 1) (i 1) 0))⟩
  have h := ((cfg0.win 9).blk t0_0).view.emb_mem_set (ix2 r 0 : S2048x1.Idx)
  rw [emb9] at h
  exact ⟨t0_0, flush0_9 _, h⟩
theorem final9 (c : Dev nD) : (dats m 0 c).arrAt 9 cfg0.N = hsVal m c :=
  (dats m 0 c).arrAt_eq_of_cover 9 (hsVal m c) (fun t _ => flushed9 m c t) cover9

/-- The reference's run: the five arrays, and the arguments kept. -/
theorem run : θ_run defs (onTc (τ := τ) (main (F := Ideal))) ⟨m, fun _ => 0, ρ⟩ fun r => ∀ c : Dev nD,
      r.2.mem ((c : Thread nD τ).loc main_v4_0) = outVal m c
      ∧ r.2.mem ((c : Thread nD τ).loc main_v4_1) = xcVal m c
      ∧ r.2.mem ((c : Thread nD τ).loc main_v4_2) = xsVal m c
      ∧ r.2.mem ((c : Thread nD τ).loc main_v4_3) = hcVal m c
      ∧ r.2.mem ((c : Thread nD τ).loc main_v4_4) = hsVal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c), ((h c).1 6).trans (final6 m c), ((h c).1 7).trans (final7 m c),
    ((h c).1 8).trans (final8 m c), ((h c).1 9).trans (final9 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c)⟩) (run_main m ρ)

end Cert.ReferenceIdeal.Result

end
-- ==== Proof.lean ====
/- The claims: every program runs to the end with its arguments unchanged and every semaphore back at zero; the kernel's
   five result arrays are the reference's, over the extended reals, wherever the precondition holds. Both sides are the row
   functions of `Model`, each at its own choice of scale; under the precondition (`Within.agree`) the two choices are one
   power of two on every row that is quantized. -/
module

public import proofs.«01_k».proof.Defs
public import proofs.«01_k».proof.Proof.BitsRun
public import proofs.«01_k».proof.Proof.Within
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

section
open Cert.KernelIdeal Cert.KernelIdeal.Gen Cert.KernelIdeal.Result Cert.KernelIdeal.Run

/-- The kernel's run: the five arrays, and the arguments kept. -/
theorem kernel_run : θ_run defs (onTc (τ := τ) (main (F := Ideal))) ⟨m, fun _ => 0, g⟩ fun r => ∀ c : Dev nD,
      r.2.mem ((c : Thread nD τ).loc main_v5) = outVal m c
      ∧ r.2.mem ((c : Thread nD τ).loc main_v3_0) = xcVal m c
      ∧ r.2.mem ((c : Thread nD τ).loc main_v3_1) = xsVal m c
      ∧ r.2.mem ((c : Thread nD τ).loc main_v3_2) = hcVal m c
      ∧ r.2.mem ((c : Thread nD τ).loc main_v3_3) = hsVal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c main_v5 (by decide)).trans (end_out m c),
    (h.1 c main_v3_0 (by decide)).trans (end_xc m c),
    (h.1 c main_v3_1 (by decide)).trans (end_xs m c),
    (h.1 c main_v3_2 (by decide)).trans (end_hc m c),
    (h.1 c main_v3_3 (by decide)).trans (end_hs m c),
    (h.1 c main_arg0 (by decide)).trans (V4_main_arg0 m (outs m) c),
    (h.1 c main_arg1 (by decide)).trans (V4_main_arg1 m (outs m) c),
    (h.1 c main_arg2 (by decide)).trans (V4_main_arg2 m (outs m) c),
    (h.1 c main_arg3 (by decide)).trans (V4_main_arg3 m (outs m) c),
    (h.1 c main_arg4 (by decide)).trans (V4_main_arg4 m (outs m) c)⟩) (run_main m g)
end

section
variable (h : Cert.Pre_KernelIdeal_within_range (hPre_within_range := Cert.Pre_within_range.Gen.facts) m) (c : Dev Cert.KernelIdeal.nD)
  (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
  (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
  (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
  (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
  (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
include h h0

/-- The reference's arrays are the kernel's when the arguments are the same and the precondition holds. -/
theorem x_eq : Cert.ReferenceIdeal.Result.X m' c = Cert.KernelIdeal.Result.X m c := congrArg Model.xs h0
theorem xc_eq : Cert.ReferenceIdeal.Result.xcVal m' c = Cert.KernelIdeal.Result.xcVal m c := by
  funext i
  show Model.code Cert.Scale.rinv (Cert.ReferenceIdeal.Result.X m' c (i 0)) (i 1) = Model.code Cert.Scale.kinv (Cert.KernelIdeal.Result.X m c (i 0)) (i 1)
  rw [x_eq m m' h c h0, (Within.agree m h c (i 0)).1.code]
theorem xs_eq : Cert.ReferenceIdeal.Result.xsVal m' c = Cert.KernelIdeal.Result.xsVal m c := by
  funext i
  show Cert.Scale.rscale (Model.quo (Cert.ReferenceIdeal.Result.X m' c (i 0))) = Cert.Scale.kscale (Model.quo (Cert.KernelIdeal.Result.X m c (i 0)))
  rw [x_eq m m' h c h0, (Within.agree m h c (i 0)).1.scale]
include h1 h2
theorem h_eq (r : Fin 2048) : Cert.ReferenceIdeal.Result.H m' c r = Cert.KernelIdeal.Result.H m c r := by
  have ew : Cert.ReferenceIdeal.Result.W m' c = Cert.KernelIdeal.Result.W m c := congrArg Model.ws h1
  have es : Cert.ReferenceIdeal.Result.S m' c = Cert.KernelIdeal.Result.S m c := congrArg Model.ss h2
  show Model.act Cert.Scale.rscale Cert.Scale.rinv (Cert.ReferenceIdeal.Result.X m' c r) (Cert.ReferenceIdeal.Result.W m' c) (Cert.ReferenceIdeal.Result.S m' c)
    = Model.act Cert.Scale.kscale Cert.Scale.kinv (Cert.KernelIdeal.Result.X m c r) (Cert.KernelIdeal.Result.W m c) (Cert.KernelIdeal.Result.S m c)
  rw [x_eq m m' h c h0, ew, es, (Within.agree m h c r).1.act]
theorem hc_eq : Cert.ReferenceIdeal.Result.hcVal m' c = Cert.KernelIdeal.Result.hcVal m c := by
  funext i
  show Model.code Cert.Scale.rinv (Cert.ReferenceIdeal.Result.H m' c (i 0)) (i 1) = Model.code Cert.Scale.kinv (Cert.KernelIdeal.Result.H m c (i 0)) (i 1)
  rw [h_eq m m' h c h0 h1 h2 (i 0), (Within.agree m h c (i 0)).2.code]
theorem hs_eq : Cert.ReferenceIdeal.Result.hsVal m' c = Cert.KernelIdeal.Result.hsVal m c := by
  funext i
  show Cert.Scale.rscale (Model.quo (Cert.ReferenceIdeal.Result.H m' c (i 0))) = Cert.Scale.kscale (Model.quo (Cert.KernelIdeal.Result.H m c (i 0)))
  rw [h_eq m m' h c h0 h1 h2 (i 0), (Within.agree m h c (i 0)).2.scale]
include h3 h4
theorem out_eq : Cert.ReferenceIdeal.Result.outVal m' c = Cert.KernelIdeal.Result.outVal m c := by
  have ew : Cert.ReferenceIdeal.Result.WD m' c = Cert.KernelIdeal.Result.WD m c := congrArg Model.wds h3
  have es : Cert.ReferenceIdeal.Result.SD m' c = Cert.KernelIdeal.Result.SD m c := congrArg Model.sds h4
  funext i
  show Model.down Cert.Scale.rscale Cert.Scale.rinv (Cert.ReferenceIdeal.Result.H m' c (i 0)) (Cert.ReferenceIdeal.Result.WD m' c) (Cert.ReferenceIdeal.Result.SD m' c) (i 1)
    = Model.down Cert.Scale.kscale Cert.Scale.kinv (Cert.KernelIdeal.Result.H m c (i 0)) (Cert.KernelIdeal.Result.WD m c) (Cert.KernelIdeal.Result.SD m c) (i 1)
  rw [h_eq m m' h c h0 h1 h2 (i 0), ew, es, (Within.agree m h c (i 0)).2.down]
end

theorem claim : Cert.Claim := ⟨Cert.Kernel.Gen.facts, Cert.KernelIdeal.Gen.facts, Cert.ReferenceIdeal.Gen.facts, Cert.Pre_within_range.Gen.facts,
  fun m g _ => Cert.Kernel.Run.frame m g,
  fun m g _ => Cert.KernelIdeal.Run.frame m g,
  fun m g _ => Cert.KernelIdeal.Run.frame m g,
  fun m g _ => Cert.ReferenceIdeal.Gen.frame m g,
  fun m g _ => Cert.ReferenceIdeal.Gen.frame m g,
  trivial,
  fun m g m' g' h e => ⟨Cert.KernelIdeal.Result.outVal m, Cert.KernelIdeal.Result.xcVal m, Cert.KernelIdeal.Result.xsVal m,
    Cert.KernelIdeal.Result.hcVal m, Cert.KernelIdeal.Result.hsVal m, kernel_run m g,
    (θ_run _ _ _).mono (fun r k c => by
      obtain ⟨h0, h1, h2, h3, h4⟩ := e c
      obtain ⟨k0, k1, k2, k3, k4, ka⟩ := k c
      exact ⟨k0.trans (out_eq m m' h c h0 h1 h2 h3 h4), k1.trans (xc_eq m m' h c h0), k2.trans (xs_eq m m' h c h0),
        k3.trans (hc_eq m m' h c h0 h1 h2), k4.trans (hs_eq m m' h c h0 h1 h2), ka⟩)
      (Cert.ReferenceIdeal.Result.run m' g')⟩⟩

end Cert.Proof

end
